-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1024x1 : S_.BroadcastsInDim S1024x1 (![] : Fin 0 → Fin S1024x1.rank)

variable [Facts]

def fn {F : FTy → Type} [FloatOps F] (main_arg0 : FVec F S1024x512 .bf16) (main_arg1 : FVec F S512x32 .bf16) (main_arg2 : IVec S1024x1 32) (main_arg3 : FVec F S4x512x1024 .bf16) (main_arg4 : FVec F S512x1024 .bf16) : IVec S1024x1 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_v11 : IVec S1024x1 1 := broadcastInDim S1024x1 ![] bcast_S_S1024x1 main_v8
  let main_v12 : IVec S1024x1 1 := andi main_v11 main_v10
  let main_c_3 : IVec S_ 32 := constantI S_ 32 32#32
  let main_v13 : IVec S1024x1 32 := broadcastInDim S1024x1 ![] bcast_S_S1024x1 main_c_3
  let main_v14 : IVec S1024x1 1 := cmpi .slt main_arg2 main_v13
  let main_v15 : IVec S1024x1 1 := andi main_v12 main_v14
  main_v15
-- ==== Pre_routed_ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1024x1 : S_.BroadcastsInDim S1024x1 (![] : Fin 0 → Fin S1024x1.rank)

variable [Facts]

def fn {F : FTy → Type} [FloatOps F] (main_arg0 : FVec F S1024x512 .bf16) (main_arg1 : FVec F S512x32 .bf16) (main_arg2 : IVec S1024x1 32) (main_arg3 : FVec F S32x512x1024 .bf16) (main_arg4 : FVec F S512x1024 .bf16) : IVec S1024x1 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_v11 : IVec S1024x1 1 := broadcastInDim S1024x1 ![] bcast_S_S1024x1 main_v8
  let main_v12 : IVec S1024x1 1 := andi main_v11 main_v10
  let main_c_3 : IVec S_ 32 := constantI S_ 32 32#32
  let main_v13 : IVec S1024x1 32 := broadcastInDim S1024x1 ![] bcast_S_S1024x1 main_c_3
  let main_v14 : IVec S1024x1 1 := cmpi .slt main_arg2 main_v13
  let main_v15 : IVec S1024x1 1 := andi main_v12 main_v14
  main_v15
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S512x512 : Shape := ⟨2, ![512, 512]⟩
abbrev S256x512 : Shape := ⟨2, ![256, 512]⟩
abbrev S128x512 : Shape := ⟨2, ![128, 512]⟩
abbrev S1024x4 : Shape := ⟨2, ![1024, 4]⟩
abbrev S6 : Shape := ⟨1, ![6]⟩
abbrev S_ : Shape := ⟨0, ![]⟩
abbrev S1024x32 : Shape := ⟨2, ![1024, 32]⟩
abbrev S1024 : Shape := ⟨1, ![1024]⟩
abbrev S512x1 : Shape := ⟨2, ![512, 1]⟩
abbrev S1x512x512 : Shape := ⟨3, ![1, 512, 512]⟩
abbrev S1 : Shape := ⟨1, ![1]⟩

abbrev nBuf : Space → Nat
  | .hbm => 6
  | .vmem => 19
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x32, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S256x512, .bf16⟩
  | .local _ .vmem, ⟨14, _⟩ => ⟨S128x512, .bf16⟩
  | .local _ .vmem, ⟨15, _⟩ => ⟨S512x512, .bf16⟩
  | .local _ .vmem, ⟨16, _⟩ => ⟨S256x512, .bf16⟩
  | .local _ .vmem, ⟨17, _⟩ => ⟨S128x512, .bf16⟩
  | .local _ .vmem, ⟨18, _⟩ => ⟨S1024x4, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c3_i32_41 : BitVec 32) : Fin 2 → Nat :=
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let v93 : BitVec 32 := Scalar.subi c1_i32_42 v92
  let c512_i32 : BitVec 32 := 512#32
  let v94 : BitVec 32 := Scalar.muli v93 c512_i32
  let v95 : BitVec 32 := Scalar.addi c0_i32_43 v94
  let v138 : Index := Scalar.indexCast v95
  let c0_66 : Index := 0#32
  ![v138.toNat, 0]
def k0_off2 (d0 : Dev nD) (c3_i32_41 : BitVec 32) : Fin 2 → Nat :=
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let v93 : BitVec 32 := Scalar.subi c1_i32_42 v92
  let c512_i32 : BitVec 32 := 512#32
  let v94 : BitVec 32 := Scalar.muli v93 c512_i32
  let v95 : BitVec 32 := Scalar.addi c0_i32_43 v94
  let v141 : Index := Scalar.indexCast v95
  let c0_67 : Index := 0#32
  ![v141.toNat, 0]
def k0_off3 (d0 : Dev nD) (c3_i32_41 : BitVec 32) : Fin 2 → Nat :=
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let v93 : BitVec 32 := Scalar.subi c1_i32_42 v92
  let c512_i32 : BitVec 32 := 512#32
  let v94 : BitVec 32 := Scalar.muli v93 c512_i32
  let v95 : BitVec 32 := Scalar.addi c0_i32_43 v94
  let v150 : Index := Scalar.indexCast v95
  let c1_72 : Index := 1#32
  ![v150.toNat, 1]
def k0_off4 (d0 : Dev nD) (c3_i32_41 : BitVec 32) : Fin 2 → Nat :=
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let v93 : BitVec 32 := Scalar.subi c1_i32_42 v92
  let c512_i32 : BitVec 32 := 512#32
  let v94 : BitVec 32 := Scalar.muli v93 c512_i32
  let v95 : BitVec 32 := Scalar.addi c0_i32_43 v94
  let v160 : Index := Scalar.indexCast v95
  let c2_77 : Index := 2#32
  ![v160.toNat, 2]
def k0_off5 (d0 : Dev nD) (c3_i32_41 : BitVec 32) : Fin 2 → Nat :=
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let v93 : BitVec 32 := Scalar.subi c1_i32_42 v92
  let c512_i32 : BitVec 32 := 512#32
  let v94 : BitVec 32 := Scalar.muli v93 c512_i32
  let v95 : BitVec 32 := Scalar.addi c0_i32_43 v94
  let v170 : Index := Scalar.indexCast v95
  let c3_82 : Index := 3#32
  ![v170.toNat, 3]
def k0_dev4 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v230 : BitVec 32 := Scalar.xori v2 c3_i32_111
  let c1_i32_115 : BitVec 32 := 1#32
  let v232 : BitVec 32 := Scalar.muli v230 c1_i32_115
  let v233 : BitVec 32 := Scalar.addi c0_i32_116 v232
  v233.toNat
def k0_dev5 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v231 : BitVec 32 := Scalar.xori v2 c4_i32_112
  let c1_i32_119 : BitVec 32 := 1#32
  let v238 : BitVec 32 := Scalar.muli v231 c1_i32_119
  let v239 : BitVec 32 := Scalar.addi c0_i32_120 v238
  v239.toNat
def k0_off6 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v244 : Index := Scalar.indexCast v97
  let c0_121 : Index := 0#32
  ![v244.toNat, 0]
def k0_off7 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v247 : Index := Scalar.indexCast v97
  let c0_122 : Index := 0#32
  ![v247.toNat, 0]
def k0_off8 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v256 : Index := Scalar.indexCast v97
  let c1_127 : Index := 1#32
  ![v256.toNat, 1]
def k0_off9 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v266 : Index := Scalar.indexCast v97
  let c2_132 : Index := 2#32
  ![v266.toNat, 2]
def k0_off10 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v276 : Index := Scalar.indexCast v97
  let c3_137 : Index := 3#32
  ![v276.toNat, 3]
def k0_off11 (d0 : Dev nD) (c3_i32_41 : BitVec 32) (c1_i32_46 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c1_i32_47 : BitVec 32 := 1#32
  let v98 : BitVec 32 := Scalar.xori v2 c1_i32_46
  let v99 : BitVec 1 := Scalar.cmpi .sgt v2 v98
  let v100 : BitVec 32 := Scalar.extui v99
  let v101 : BitVec 32 := Scalar.subi c1_i32_47 v100
  let c256_i32 : BitVec 32 := 256#32
  let v102 : BitVec 32 := Scalar.muli v101 c256_i32
  let v103 : BitVec 32 := Scalar.addi v97 v102
  let c0_i32_193 : BitVec 32 := 0#32
  ![v103.toNat, 0]
def k0_off11_at (r : Fin 2) : BitVec 32 × BitVec 32 :=
  if r.val < 1 then
    (3#32, 1#32)
  else
    (4#32, 3#32)
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v366 : BitVec 32 := Scalar.xori v2 c1_i32_187
  let c1_i32_191 : BitVec 32 := 1#32
  let v368 : BitVec 32 := Scalar.muli v366 c1_i32_191
  let v369 : BitVec 32 := Scalar.addi c0_i32_192 v368
  v369.toNat
def k0_dev7 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_188 : BitVec 32 := 3#32
  let v367 : BitVec 32 := Scalar.xori v2 c3_i32_188
  let c1_i32_196 : BitVec 32 := 1#32
  let v375 : BitVec 32 := Scalar.muli v367 c1_i32_196
  let v376 : BitVec 32 := Scalar.addi c0_i32_197 v375
  v376.toNat
def k0_off12 (d0 : Dev nD) (c3_i32_41 : BitVec 32) (c1_i32_46 : BitVec 32) (c4_i32_49 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let v106 : BitVec 32 := Scalar.xori v2 c4_i32_49
  let v107 : BitVec 1 := Scalar.cmpi .sgt v2 v106
  let v108 : BitVec 32 := Scalar.extui v107
  let c128_i32_51 : BitVec 32 := 128#32
  let v112 : BitVec 32 := Scalar.muli v108 c128_i32_51
  let v113 : BitVec 32 := Scalar.addi v105 v112
  let v384 : Index := Scalar.indexCast v113
  let c0_201 : Index := 0#32
  ![v384.toNat, 0]
def k0_off12_at (r : Fin 2) : BitVec 32 × BitVec 32 × BitVec 32 :=
  if r.val < 1 then
    (3#32, 1#32, 4#32)
  else
    (4#32, 3#32, 1#32)
def k0_off13 (d0 : Dev nD) (c3_i32_41 : BitVec 32) (c1_i32_46 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let v410 : Index := Scalar.indexCast v105
  let c0_223 : Index := 0#32
  ![v410.toNat, 0]
def k0_off13_at (r : Fin 2) : BitVec 32 × BitVec 32 :=
  if r.val < 1 then
    (3#32, 1#32)
  else
    (4#32, 3#32)
def k0_off14 (d0 : Dev nD) (c3_i32_41 : BitVec 32) (c1_i32_46 : BitVec 32) (c4_i32_49 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let c1_i32_50 : BitVec 32 := 1#32
  let v106 : BitVec 32 := Scalar.xori v2 c4_i32_49
  let v107 : BitVec 1 := Scalar.cmpi .sgt v2 v106
  let v108 : BitVec 32 := Scalar.extui v107
  let v109 : BitVec 32 := Scalar.subi c1_i32_50 v108
  let c128_i32 : BitVec 32 := 128#32
  let v110 : BitVec 32 := Scalar.muli v109 c128_i32
  let v111 : BitVec 32 := Scalar.addi v105 v110
  let c0_i32_237 : BitVec 32 := 0#32
  ![v111.toNat, 0]
def k0_off14_at (r : Fin 2) : BitVec 32 × BitVec 32 × BitVec 32 :=
  if r.val < 1 then
    (3#32, 1#32, 4#32)
  else
    (4#32, 3#32, 1#32)
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_231 : BitVec 32 := 4#32
  let v426 : BitVec 32 := Scalar.xori v2 c4_i32_231
  let c1_i32_235 : BitVec 32 := 1#32
  let v428 : BitVec 32 := Scalar.muli v426 c1_i32_235
  let v429 : BitVec 32 := Scalar.addi c0_i32_236 v428
  v429.toNat
def k0_dev9 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_232 : BitVec 32 := 1#32
  let v427 : BitVec 32 := Scalar.xori v2 c1_i32_232
  let c1_i32_239 : BitVec 32 := 1#32
  let v435 : BitVec 32 := Scalar.muli v427 c1_i32_239
  let v436 : BitVec 32 := Scalar.addi c0_i32_240 v435
  v436.toNat
def k0_off15 (d0 : Dev nD) (c3_i32_41 : BitVec 32) (c1_i32_46 : BitVec 32) (c4_i32_49 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let v106 : BitVec 32 := Scalar.xori v2 c4_i32_49
  let v107 : BitVec 1 := Scalar.cmpi .sgt v2 v106
  let v108 : BitVec 32 := Scalar.extui v107
  let c128_i32_51 : BitVec 32 := 128#32
  let v112 : BitVec 32 := Scalar.muli v108 c128_i32_51
  let v113 : BitVec 32 := Scalar.addi v105 v112
  let c0_i32_274 : BitVec 32 := 0#32
  ![v113.toNat, 0]
def k0_off15_at (r : Fin 2) : BitVec 32 × BitVec 32 × BitVec 32 :=
  if r.val < 1 then
    (3#32, 1#32, 4#32)
  else
    (4#32, 3#32, 1#32)
def k0_dev10 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_268 : BitVec 32 := 4#32
  let v480 : BitVec 32 := Scalar.xori v2 c4_i32_268
  let c1_i32_272 : BitVec 32 := 1#32
  let v482 : BitVec 32 := Scalar.muli v480 c1_i32_272
  let v483 : BitVec 32 := Scalar.addi c0_i32_273 v482
  v483.toNat
def k0_dev11 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_269 : BitVec 32 := 1#32
  let v481 : BitVec 32 := Scalar.xori v2 c1_i32_269
  let c1_i32_278 : BitVec 32 := 1#32
  let v490 : BitVec 32 := Scalar.muli v481 c1_i32_278
  let v491 : BitVec 32 := Scalar.addi c0_i32_279 v490
  v491.toNat
def k0_off16 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c1_i32_46 : BitVec 32 := 1#32
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let c4_i32_49 : BitVec 32 := 4#32
  let v106 : BitVec 32 := Scalar.xori v2 c4_i32_49
  let v107 : BitVec 1 := Scalar.cmpi .sgt v2 v106
  let v108 : BitVec 32 := Scalar.extui v107
  let c128_i32_51 : BitVec 32 := 128#32
  let v112 : BitVec 32 := Scalar.muli v108 c128_i32_51
  let v113 : BitVec 32 := Scalar.addi v105 v112
  let v501 : Index := Scalar.indexCast v113
  let c0_283 : Index := 0#32
  ![v501.toNat, 0]
def k0_off17 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_52 : BitVec 32 := 4#32
  let v114 : BitVec 32 := Scalar.xori v2 c4_i32_52
  let v115 : BitVec 1 := Scalar.cmpi .sgt v2 v114
  let v116 : BitVec 32 := Scalar.extui v115
  let c512_i32_56 : BitVec 32 := 512#32
  let v120 : BitVec 32 := Scalar.muli v116 c512_i32_56
  let v121 : BitVec 32 := Scalar.addi c0_i32_57 v120
  let c3_i32_58 : BitVec 32 := 3#32
  let v122 : BitVec 32 := Scalar.xori v2 c3_i32_58
  let v123 : BitVec 1 := Scalar.cmpi .sgt v2 v122
  let v124 : BitVec 32 := Scalar.extui v123
  let c256_i32_61 : BitVec 32 := 256#32
  let v128 : BitVec 32 := Scalar.muli v124 c256_i32_61
  let v129 : BitVec 32 := Scalar.addi v121 v128
  let c1_i32_62 : BitVec 32 := 1#32
  let v130 : BitVec 32 := Scalar.xori v2 c1_i32_62
  let v131 : BitVec 1 := Scalar.cmpi .sgt v2 v130
  let v132 : BitVec 32 := Scalar.extui v131
  let c128_i32_65 : BitVec 32 := 128#32
  let v136 : BitVec 32 := Scalar.muli v132 c128_i32_65
  let v137 : BitVec 32 := Scalar.addi v129 v136
  let v506 : Index := Scalar.indexCast v137
  let c512_285 : Index := 512#32
  ![v506.toNat, 512]
def k0_off18 (d0 : Dev nD) (c3_i32_41 : BitVec 32) (c1_i32_46 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let c0_i32_316 : BitVec 32 := 0#32
  ![v105.toNat, 0]
def k0_off18_at (r : Fin 2) : BitVec 32 × BitVec 32 :=
  if r.val < 1 then
    (3#32, 1#32)
  else
    (4#32, 3#32)
def k0_dev12 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_310 : BitVec 32 := 1#32
  let v534 : BitVec 32 := Scalar.xori v2 c1_i32_310
  let c1_i32_314 : BitVec 32 := 1#32
  let v536 : BitVec 32 := Scalar.muli v534 c1_i32_314
  let v537 : BitVec 32 := Scalar.addi c0_i32_315 v536
  v537.toNat
def k0_dev13 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_311 : BitVec 32 := 3#32
  let v535 : BitVec 32 := Scalar.xori v2 c3_i32_311
  let c1_i32_320 : BitVec 32 := 1#32
  let v544 : BitVec 32 := Scalar.muli v535 c1_i32_320
  let v545 : BitVec 32 := Scalar.addi c0_i32_321 v544
  v545.toNat
def k0_off19 (d0 : Dev nD) (c3_i32_41 : BitVec 32) (c1_i32_46 : BitVec 32) (c4_i32_49 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let v106 : BitVec 32 := Scalar.xori v2 c4_i32_49
  let v107 : BitVec 1 := Scalar.cmpi .sgt v2 v106
  let v108 : BitVec 32 := Scalar.extui v107
  let c128_i32_51 : BitVec 32 := 128#32
  let v112 : BitVec 32 := Scalar.muli v108 c128_i32_51
  let v113 : BitVec 32 := Scalar.addi v105 v112
  let v528 : BitVec 1 := Scalar.cmpi .eq v113 v105
  let c128_i32_308 : BitVec 32 := 128#32
  let v529 : BitVec 32 := Scalar.addi v113 c128_i32_308
  let v530 : BitVec 32 := Scalar.select v528 v529 v105
  let v552 : Index := Scalar.indexCast v530
  let c0_324 : Index := 0#32
  ![v552.toNat, 0]
def k0_off19_at (r : Fin 2) : BitVec 32 × BitVec 32 × BitVec 32 :=
  if r.val < 1 then
    (3#32, 1#32, 4#32)
  else
    (4#32, 3#32, 1#32)
def k0_off20 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c1_i32_46 : BitVec 32 := 1#32
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let c4_i32_49 : BitVec 32 := 4#32
  let v106 : BitVec 32 := Scalar.xori v2 c4_i32_49
  let v107 : BitVec 1 := Scalar.cmpi .sgt v2 v106
  let v108 : BitVec 32 := Scalar.extui v107
  let c128_i32_51 : BitVec 32 := 128#32
  let v112 : BitVec 32 := Scalar.muli v108 c128_i32_51
  let v113 : BitVec 32 := Scalar.addi v105 v112
  let v528 : BitVec 1 := Scalar.cmpi .eq v113 v105
  let c128_i32_308 : BitVec 32 := 128#32
  let v529 : BitVec 32 := Scalar.addi v113 c128_i32_308
  let v530 : BitVec 32 := Scalar.select v528 v529 v105
  let v555 : Index := Scalar.indexCast v530
  let c0_325 : Index := 0#32
  ![v555.toNat, 0]
def k0_off21 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_52 : BitVec 32 := 4#32
  let v114 : BitVec 32 := Scalar.xori v2 c4_i32_52
  let v115 : BitVec 1 := Scalar.cmpi .sgt v2 v114
  let v116 : BitVec 32 := Scalar.extui v115
  let c512_i32_56 : BitVec 32 := 512#32
  let v120 : BitVec 32 := Scalar.muli v116 c512_i32_56
  let v121 : BitVec 32 := Scalar.addi c0_i32_57 v120
  let c3_i32_58 : BitVec 32 := 3#32
  let v122 : BitVec 32 := Scalar.xori v2 c3_i32_58
  let v123 : BitVec 1 := Scalar.cmpi .sgt v2 v122
  let v124 : BitVec 32 := Scalar.extui v123
  let c256_i32_61 : BitVec 32 := 256#32
  let v128 : BitVec 32 := Scalar.muli v124 c256_i32_61
  let v129 : BitVec 32 := Scalar.addi v121 v128
  let c1_i32_62 : BitVec 32 := 1#32
  let v130 : BitVec 32 := Scalar.xori v2 c1_i32_62
  let v131 : BitVec 1 := Scalar.cmpi .sgt v2 v130
  let v132 : BitVec 32 := Scalar.extui v131
  let c128_i32_65 : BitVec 32 := 128#32
  let v136 : BitVec 32 := Scalar.muli v132 c128_i32_65
  let v137 : BitVec 32 := Scalar.addi v129 v136
  let v531 : BitVec 1 := Scalar.cmpi .eq v137 v129
  let c128_i32_309 : BitVec 32 := 128#32
  let v532 : BitVec 32 := Scalar.addi v137 c128_i32_309
  let v533 : BitVec 32 := Scalar.select v531 v532 v129
  let v560 : Index := Scalar.indexCast v533
  let c512_327 : Index := 512#32
  ![v560.toNat, 512]
def k0_off22 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c0_i32_358 : BitVec 32 := 0#32
  ![v97.toNat, 0]
def k0_dev14 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v588 : BitVec 32 := Scalar.xori v2 c3_i32_352
  let c1_i32_356 : BitVec 32 := 1#32
  let v590 : BitVec 32 := Scalar.muli v588 c1_i32_356
  let v591 : BitVec 32 := Scalar.addi c0_i32_357 v590
  v591.toNat
def k0_dev15 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_353 : BitVec 32 := 4#32
  let v589 : BitVec 32 := Scalar.xori v2 c4_i32_353
  let c1_i32_362 : BitVec 32 := 1#32
  let v598 : BitVec 32 := Scalar.muli v589 c1_i32_362
  let v599 : BitVec 32 := Scalar.addi c0_i32_363 v598
  v599.toNat
def k0_off23 (d0 : Dev nD) (c3_i32_41 : BitVec 32) (c1_i32_46 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let v582 : BitVec 1 := Scalar.cmpi .eq v105 v97
  let c256_i32_350 : BitVec 32 := 256#32
  let v583 : BitVec 32 := Scalar.addi v105 c256_i32_350
  let v584 : BitVec 32 := Scalar.select v582 v583 v97
  let v606 : Index := Scalar.indexCast v584
  let c0_366 : Index := 0#32
  ![v606.toNat, 0]
def k0_off23_at (r : Fin 2) : BitVec 32 × BitVec 32 :=
  if r.val < 1 then
    (3#32, 1#32)
  else
    (4#32, 3#32)
def k0_off24 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c1_i32_46 : BitVec 32 := 1#32
  let v98 : BitVec 32 := Scalar.xori v2 c1_i32_46
  let v99 : BitVec 1 := Scalar.cmpi .sgt v2 v98
  let v100 : BitVec 32 := Scalar.extui v99
  let c256_i32_48 : BitVec 32 := 256#32
  let v104 : BitVec 32 := Scalar.muli v100 c256_i32_48
  let v105 : BitVec 32 := Scalar.addi v97 v104
  let v582 : BitVec 1 := Scalar.cmpi .eq v105 v97
  let c256_i32_350 : BitVec 32 := 256#32
  let v583 : BitVec 32 := Scalar.addi v105 c256_i32_350
  let v584 : BitVec 32 := Scalar.select v582 v583 v97
  let v609 : Index := Scalar.indexCast v584
  let c0_367 : Index := 0#32
  ![v609.toNat, 0]
def k0_off25 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_52 : BitVec 32 := 4#32
  let v114 : BitVec 32 := Scalar.xori v2 c4_i32_52
  let v115 : BitVec 1 := Scalar.cmpi .sgt v2 v114
  let v116 : BitVec 32 := Scalar.extui v115
  let c512_i32_56 : BitVec 32 := 512#32
  let v120 : BitVec 32 := Scalar.muli v116 c512_i32_56
  let v121 : BitVec 32 := Scalar.addi c0_i32_57 v120
  let c3_i32_58 : BitVec 32 := 3#32
  let v122 : BitVec 32 := Scalar.xori v2 c3_i32_58
  let v123 : BitVec 1 := Scalar.cmpi .sgt v2 v122
  let v124 : BitVec 32 := Scalar.extui v123
  let c256_i32_61 : BitVec 32 := 256#32
  let v128 : BitVec 32 := Scalar.muli v124 c256_i32_61
  let v129 : BitVec 32 := Scalar.addi v121 v128
  let v585 : BitVec 1 := Scalar.cmpi .eq v129 v121
  let c256_i32_351 : BitVec 32 := 256#32
  let v586 : BitVec 32 := Scalar.addi v129 c256_i32_351
  let v587 : BitVec 32 := Scalar.select v585 v586 v121
  let v614 : Index := Scalar.indexCast v587
  let c512_369 : Index := 512#32
  ![v614.toNat, 512]
def k0_off26 (d0 : Dev nD) (c3_i32_41 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c0_i32_392 : BitVec 32 := 0#32
  let v636 : BitVec 1 := Scalar.cmpi .eq v97 c0_i32_392
  let c512_i32_393 : BitVec 32 := 512#32
  let v637 : BitVec 32 := Scalar.addi v97 c512_i32_393
  let c0_i32_394 : BitVec 32 := 0#32
  let v638 : BitVec 32 := Scalar.select v636 v637 c0_i32_394
  let v642 : Index := Scalar.indexCast v638
  let c0_398 : Index := 0#32
  ![v642.toNat, 0]
def k0_off27 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v90 : BitVec 32 := Scalar.xori v2 c3_i32_41
  let v91 : BitVec 1 := Scalar.cmpi .sgt v2 v90
  let v92 : BitVec 32 := Scalar.extui v91
  let c512_i32_44 : BitVec 32 := 512#32
  let v96 : BitVec 32 := Scalar.muli v92 c512_i32_44
  let v97 : BitVec 32 := Scalar.addi c0_i32_45 v96
  let c0_i32_392 : BitVec 32 := 0#32
  let v636 : BitVec 1 := Scalar.cmpi .eq v97 c0_i32_392
  let c512_i32_393 : BitVec 32 := 512#32
  let v637 : BitVec 32 := Scalar.addi v97 c512_i32_393
  let c0_i32_394 : BitVec 32 := 0#32
  let v638 : BitVec 32 := Scalar.select v636 v637 c0_i32_394
  let v645 : Index := Scalar.indexCast v638
  let c0_399 : Index := 0#32
  ![v645.toNat, 0]
def k0_off28 (d0 : Dev nD) : Fin 2 → Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_52 : BitVec 32 := 4#32
  let v114 : BitVec 32 := Scalar.xori v2 c4_i32_52
  let v115 : BitVec 1 := Scalar.cmpi .sgt v2 v114
  let v116 : BitVec 32 := Scalar.extui v115
  let c512_i32_56 : BitVec 32 := 512#32
  let v120 : BitVec 32 := Scalar.muli v116 c512_i32_56
  let v121 : BitVec 32 := Scalar.addi c0_i32_57 v120
  let c0_i32_395 : BitVec 32 := 0#32
  let v639 : BitVec 1 := Scalar.cmpi .eq v121 c0_i32_395
  let c512_i32_396 : BitVec 32 := 512#32
  let v640 : BitVec 32 := Scalar.addi v121 c512_i32_396
  let c0_i32_397 : BitVec 32 := 0#32
  let v641 : BitVec 32 := Scalar.select v639 v640 c0_i32_397
  let v650 : Index := Scalar.indexCast v641
  let c512_401 : Index := 512#32
  ![v650.toNat, 512]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S512x1024 : Shape := ⟨2, ![512, 1024]⟩
abbrev S1024x32 : Shape := ⟨2, ![1024, 32]⟩
abbrev S_ : Shape := ⟨0, ![]⟩
abbrev S1024 : Shape := ⟨1, ![1024]⟩
abbrev S1024x1024 : Shape := ⟨2, ![1024, 1024]⟩
abbrev S1024x1x1 : Shape := ⟨3, ![1024, 1, 1]⟩
abbrev S1 : Shape := ⟨1, ![1]⟩
abbrev S1x1x1 : Shape := ⟨3, ![1, 1, 1]⟩
abbrev S1x1 : Shape := ⟨2, ![1, 1]⟩
abbrev S1024x512x1024 : Shape := ⟨3, ![1024, 512, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S32x512x1024, .bf16⟩
  | .hbm, ⟨4, _⟩ => ⟨S512x1024, .bf16⟩
  | .hbm, ⟨5, _⟩ => ⟨S1024x512, .f32⟩
  | .hbm, ⟨6, _⟩ => ⟨S512x32, .f32⟩
  | .hbm, ⟨7, _⟩ => ⟨S1024x32, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x32, .f32⟩
  | .hbm, ⟨12, _⟩ => ⟨S1024x32, .f32⟩
  | .hbm, ⟨13, _⟩ => ⟨S1024x32, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x32, .f32⟩
  | .hbm, ⟨18, _⟩ => ⟨S1024x32, .f32⟩
  | .hbm, ⟨19, _⟩ => ⟨S512x1024, .f32⟩
  | .hbm, ⟨20, _⟩ => ⟨S1024x1024, .f32⟩
  | .hbm, ⟨21, _⟩ => ⟨S1024, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S1024x1x1, .i32⟩
  | .hbm, ⟨30, _⟩ => ⟨S1, .i32⟩
  | .hbm, ⟨31, _⟩ => ⟨S_, .i32⟩
  | .hbm, ⟨32, _⟩ => ⟨S1024x1x1, .i32⟩
  | .hbm, ⟨33, _⟩ => ⟨S1024x1x1, .i1⟩
  | .hbm, ⟨34, _⟩ => ⟨S1x1x1, .i32⟩
  | .hbm, ⟨35, _⟩ => ⟨S1024x1x1, .i32⟩
  | .hbm, ⟨36, _⟩ => ⟨S1024x1x1, .i1⟩
  | .hbm, ⟨37, _⟩ => ⟨S1024x1x1, .i1⟩
  | .hbm, ⟨38, _⟩ => ⟨S_, .i1⟩
  | .hbm, ⟨39, _⟩ => ⟨S1024x1, .i1⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S32x512x1024, .f32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1, .i32⟩
  | .hbm, ⟨54, _⟩ => ⟨S_, .i32⟩
  | .hbm, ⟨55, _⟩ => ⟨S1024x1, .i32⟩
  | .hbm, ⟨56, _⟩ => ⟨S1024x1, .i1⟩
  | .hbm, ⟨57, _⟩ => ⟨S1x1, .i32⟩
  | .hbm, ⟨58, _⟩ => ⟨S1024x1, .i32⟩
  | .hbm, ⟨59, _⟩ => ⟨S1024x1, .i1⟩
  | .hbm, ⟨60, _⟩ => ⟨S1024x1, .i1⟩
  | .hbm, ⟨61, _⟩ => ⟨S_, .i1⟩
  | .hbm, ⟨62, _⟩ => ⟨S1024, .i1⟩
  | .hbm, ⟨63, _⟩ => ⟨S1024x512x1024, .f32⟩
  | .hbm, ⟨64, _⟩ => ⟨S1024x512x1024, .i1⟩
  | .hbm, ⟨65, _⟩ => ⟨S_, .f32⟩
  | .hbm, ⟨66, _⟩ => ⟨S1024x512x1024, .f32⟩
  | .hbm, ⟨67, _⟩ => ⟨S1024x512x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩

abbrev nD : Nat := 1
abbrev τ : Topo := Topo.v7x

variable {F : FTy → Type} [FloatOps F]
-- ==== Proof.Geometry.lean ====
/-
# 01_k: where things are

The eight devices form a cube whose three partner functions flip the bits `1`, `3` and `4` of the device number.  The rows
of the two accumulators are halved three times along them; this module names the rows each device keeps and passes on at each
stage, and shows that the program's own row offsets and partner numbers are those.
-/
module

public import proofs.«01_k».proof.Proof.Gen.KernelIdeal
public import Idealize.ShloMosaic.Lib.ValueIdxCore

@[expose] public section

namespace Cert.Moe

open Cert.KernelIdeal Cert.KernelIdeal.Gen
open Idealize.ShloMosaic Idealize.ShloMosaic.ValueIdx

/-! ## Partners -/

/-- The partner of device `c` under mask number `i`: masks `1`, `3`, `4`. -/
def par (i : Fin 3) (c : Dev nD) : Dev nD := ⟨c.val ^^^ (![1, 3, 4] i), by revert c i; decide +kernel⟩

theorem par_par (i : Fin 3) (c : Dev nD) : par i (par i c) = c := by revert c i; decide +kernel
theorem par_ne (i : Fin 3) (c : Dev nD) : par i c ≠ c := by revert c i; decide +kernel

/-- A partner function as a permutation of the devices. -/
def parEquiv (i : Fin 3) : Dev nD ≃ Dev nD := ⟨par i, par i, par_par i, par_par i⟩

/-- Which partner transfer `t` goes to.  Transfers are numbered in the order the program issues them: first the three
    halving stages (each for the left and the right half of the columns), then the three doubling stages. -/
def tm : Fin 12 → Fin 3 := ![1, 2, 0, 1, 2, 0, 2, 0, 0, 1, 1, 2]

/-- The device transfer `t` of device `c` goes to; it is also the device `c`'s transfer `t` comes from. -/
abbrev tpeer (t : Fin 12) (c : Dev nD) : Dev nD := par (tm t) c

/-! ## Row ranges -/

/-- The bit deciding which half device `c` keeps at stage `s` of column half `h`. -/
def bit (h : Fin 2) (s : Fin 3) (c : Dev nD) : ℕ :=
  ![![c.val / 2 % 2, c.val % 2, c.val / 4], ![c.val / 4, c.val / 2 % 2, c.val % 2]] h s

/-- The first row device `c` keeps at stage `s`: `512`, `256`, then `128` rows. -/
def kLo (h : Fin 2) (s : Fin 3) (c : Dev nD) : ℕ :=
  ![512 * bit h 0 c, 512 * bit h 0 c + 256 * bit h 1 c, 512 * bit h 0 c + 256 * bit h 1 c + 128 * bit h 2 c] s

/-- The first row device `c` passes on at stage `s`. -/
def sLo (h : Fin 2) (s : Fin 3) (c : Dev nD) : ℕ :=
  ![512 * (1 - bit h 0 c), 512 * bit h 0 c + 256 * (1 - bit h 1 c), 512 * bit h 0 c + 256 * bit h 1 c + 128 * (1 - bit h 2 c)] s

/-- The partner's number of stage `s` of column half `h`. -/
def hm (h : Fin 2) (s : Fin 3) : Fin 3 := ![![1, 0, 2], ![2, 1, 0]] h s

/-- What a device passes on is what its partner keeps. -/
theorem sLo_eq (h : Fin 2) (s : Fin 3) (c : Dev nD) : sLo h s c = kLo h s (par (hm h s) c) := by revert h s c; decide +kernel
theorem kLo_eq (h : Fin 2) (s : Fin 3) (c : Dev nD) : kLo h s c = sLo h s (par (hm h s) c) := by revert h s c; decide +kernel

/-- The whole is cut in two at stage `0`, … -/
theorem cut0 (h : Fin 2) (c : Dev nD) : (kLo h 0 c = 0 ∧ sLo h 0 c = 512) ∨ (kLo h 0 c = 512 ∧ sLo h 0 c = 0) := by
  revert h c; decide +kernel
/-- … what was kept then at stage `1`, … -/
theorem cut1 (h : Fin 2) (c : Dev nD) :
    (kLo h 1 c = kLo h 0 c ∧ sLo h 1 c = kLo h 0 c + 256) ∨ (kLo h 1 c = kLo h 0 c + 256 ∧ sLo h 1 c = kLo h 0 c) := by
  revert h c; decide +kernel
/-- … and what was kept then at stage `2`. -/
theorem cut2 (h : Fin 2) (c : Dev nD) :
    (kLo h 2 c = kLo h 1 c ∧ sLo h 2 c = kLo h 1 c + 128) ∨ (kLo h 2 c = kLo h 1 c + 128 ∧ sLo h 2 c = kLo h 1 c) := by
  revert h c; decide +kernel

theorem kLo_le (h : Fin 2) (s : Fin 3) (c : Dev nD) : kLo h s c + ![512, 256, 128] s ≤ 1024 := by revert h s c; decide +kernel
theorem sLo_le (h : Fin 2) (s : Fin 3) (c : Dev nD) : sLo h s c + ![512, 256, 128] s ≤ 1024 := by revert h s c; decide +kernel

/-- The device that ends up with rows `128 b`, …, `128 b + 127` of column half `h`. -/
def owner (h : Fin 2) (b : Fin 8) : Dev nD :=
  ![⟨2 * (b.val / 4) + b.val / 2 % 2 + 4 * (b.val % 2), by revert b; decide +kernel⟩, b] h
theorem kLo_owner (h : Fin 2) (b : Fin 8) : kLo h 2 (owner h b) = 128 * b.val := by revert h b; decide +kernel
theorem owner_kLo (h : Fin 2) (c : Dev nD) (b : Fin 8) (hb : kLo h 2 c = 128 * b.val) : owner h b = c := by
  revert hb; revert h b c; decide +kernel
theorem kLo2_mod (h : Fin 2) (c : Dev nD) : kLo h 2 c = 128 * (kLo h 2 c / 128) := by revert h c; decide +kernel

/-! ## The program's offsets -/

section Off
variable (c : Dev nD)

theorem off6A : k0_off6 c 3#32 = ![kLo 0 0 c, 0] := by revert c; decide +kernel
theorem off6B : k0_off6 c 4#32 = ![kLo 1 0 c, 0] := by revert c; decide +kernel
theorem off11A : k0_off11 c 3#32 1#32 = ![sLo 0 1 c, 0] := by revert c; decide +kernel
theorem off11B : k0_off11 c 4#32 3#32 = ![sLo 1 1 c, 0] := by revert c; decide +kernel
theorem off12A : k0_off12 c 3#32 1#32 4#32 = ![kLo 0 2 c, 0] := by revert c; decide +kernel
theorem off12B : k0_off12 c 4#32 3#32 1#32 = ![kLo 1 2 c, 0] := by revert c; decide +kernel
theorem off13A : k0_off13 c 3#32 1#32 = ![kLo 0 1 c, 0] := by revert c; decide +kernel
theorem off13B : k0_off13 c 4#32 3#32 = ![kLo 1 1 c, 0] := by revert c; decide +kernel
theorem off14A : k0_off14 c 3#32 1#32 4#32 = ![sLo 0 2 c, 0] := by revert c; decide +kernel
theorem off14B : k0_off14 c 4#32 3#32 1#32 = ![sLo 1 2 c, 0] := by revert c; decide +kernel
theorem off15A : k0_off15 c 3#32 1#32 4#32 = ![kLo 0 2 c, 0] := by revert c; decide +kernel
theorem off15B : k0_off15 c 4#32 3#32 1#32 = ![kLo 1 2 c, 0] := by revert c; decide +kernel
theorem off16_eq : k0_off16 c = ![kLo 0 2 c, 0] := by revert c; decide +kernel
theorem off17_eq : k0_off17 c = ![kLo 1 2 c, 512] := by revert c; decide +kernel
theorem off18A : k0_off18 c 3#32 1#32 = ![kLo 0 1 c, 0] := by revert c; decide +kernel
theorem off18B : k0_off18 c 4#32 3#32 = ![kLo 1 1 c, 0] := by revert c; decide +kernel
theorem off19A : k0_off19 c 3#32 1#32 4#32 = ![sLo 0 2 c, 0] := by revert c; decide +kernel
theorem off19B : k0_off19 c 4#32 3#32 1#32 = ![sLo 1 2 c, 0] := by revert c; decide +kernel
theorem off20_eq : k0_off20 c = ![sLo 0 2 c, 0] := by revert c; decide +kernel
theorem off21_eq : k0_off21 c = ![sLo 1 2 c, 512] := by revert c; decide +kernel
theorem off22A : k0_off22 c 3#32 = ![kLo 0 0 c, 0] := by revert c; decide +kernel
theorem off22B : k0_off22 c 4#32 = ![kLo 1 0 c, 0] := by revert c; decide +kernel
theorem off23A : k0_off23 c 3#32 1#32 = ![sLo 0 1 c, 0] := by revert c; decide +kernel
theorem off23B : k0_off23 c 4#32 3#32 = ![sLo 1 1 c, 0] := by revert c; decide +kernel
theorem off24_eq : k0_off24 c = ![sLo 0 1 c, 0] := by revert c; decide +kernel
theorem off25_eq : k0_off25 c = ![sLo 1 1 c, 512] := by revert c; decide +kernel
theorem off26A : k0_off26 c 3#32 = ![sLo 0 0 c, 0] := by revert c; decide +kernel
theorem off26B : k0_off26 c 4#32 = ![sLo 1 0 c, 0] := by revert c; decide +kernel
theorem off27_eq : k0_off27 c = ![sLo 0 0 c, 0] := by revert c; decide +kernel
theorem off28_eq : k0_off28 c = ![sLo 1 0 c, 512] := by revert c; decide +kernel

/-! The rows read for the rows passed on at stage `0` (offsets `1` to `5`) and kept (offsets `6` to `10`). -/

theorem off1A : k0_off1 c 3#32 = ![sLo 0 0 c, 0] := by revert c; decide +kernel
theorem off1B : k0_off1 c 4#32 = ![sLo 1 0 c, 0] := by revert c; decide +kernel
theorem off2A : k0_off2 c 3#32 = ![sLo 0 0 c, 0] := by revert c; decide +kernel
theorem off2B : k0_off2 c 4#32 = ![sLo 1 0 c, 0] := by revert c; decide +kernel
theorem off3A : k0_off3 c 3#32 = ![sLo 0 0 c, 1] := by revert c; decide +kernel
theorem off3B : k0_off3 c 4#32 = ![sLo 1 0 c, 1] := by revert c; decide +kernel
theorem off4A : k0_off4 c 3#32 = ![sLo 0 0 c, 2] := by revert c; decide +kernel
theorem off4B : k0_off4 c 4#32 = ![sLo 1 0 c, 2] := by revert c; decide +kernel
theorem off5A : k0_off5 c 3#32 = ![sLo 0 0 c, 3] := by revert c; decide +kernel
theorem off5B : k0_off5 c 4#32 = ![sLo 1 0 c, 3] := by revert c; decide +kernel
theorem off7A : k0_off7 c 3#32 = ![kLo 0 0 c, 0] := by revert c; decide +kernel
theorem off7B : k0_off7 c 4#32 = ![kLo 1 0 c, 0] := by revert c; decide +kernel
theorem off8A : k0_off8 c 3#32 = ![kLo 0 0 c, 1] := by revert c; decide +kernel
theorem off8B : k0_off8 c 4#32 = ![kLo 1 0 c, 1] := by revert c; decide +kernel
theorem off9A : k0_off9 c 3#32 = ![kLo 0 0 c, 2] := by revert c; decide +kernel
theorem off9B : k0_off9 c 4#32 = ![kLo 1 0 c, 2] := by revert c; decide +kernel
theorem off10A : k0_off10 c 3#32 = ![kLo 0 0 c, 3] := by revert c; decide +kernel
theorem off10B : k0_off10 c 4#32 = ![kLo 1 0 c, 3] := by revert c; decide +kernel

/-! ## The program's partners -/

theorem dev1_eq : (⟨k0_dev1 c, k0_dev1_lt c⟩ : Dev nD) = par 0 c := by revert c; decide +kernel
theorem dev2_eq : (⟨k0_dev2 c, k0_dev2_lt c⟩ : Dev nD) = par 1 c := by revert c; decide +kernel
theorem dev3_eq : (⟨k0_dev3 c, k0_dev3_lt c⟩ : Dev nD) = par 2 c := by revert c; decide +kernel
theorem dev4_eq : (⟨k0_dev4 c, k0_dev4_lt c⟩ : Dev nD) = tpeer 0 c := by revert c; decide +kernel
theorem dev5_eq : (⟨k0_dev5 c, k0_dev5_lt c⟩ : Dev nD) = tpeer 1 c := by revert c; decide +kernel
theorem dev6_eq : (⟨k0_dev6 c, k0_dev6_lt c⟩ : Dev nD) = tpeer 2 c := by revert c; decide +kernel
theorem dev7_eq : (⟨k0_dev7 c, k0_dev7_lt c⟩ : Dev nD) = tpeer 3 c := by revert c; decide +kernel
theorem dev8_eq : (⟨k0_dev8 c, k0_dev8_lt c⟩ : Dev nD) = tpeer 4 c := by revert c; decide +kernel
theorem dev9_eq : (⟨k0_dev9 c, k0_dev9_lt c⟩ : Dev nD) = tpeer 5 c := by revert c; decide +kernel
theorem dev10_eq : (⟨k0_dev10 c, k0_dev10_lt c⟩ : Dev nD) = tpeer 6 c := by revert c; decide +kernel
theorem dev11_eq : (⟨k0_dev11 c, k0_dev11_lt c⟩ : Dev nD) = tpeer 7 c := by revert c; decide +kernel
theorem dev12_eq : (⟨k0_dev12 c, k0_dev12_lt c⟩ : Dev nD) = tpeer 8 c := by revert c; decide +kernel
theorem dev13_eq : (⟨k0_dev13 c, k0_dev13_lt c⟩ : Dev nD) = tpeer 9 c := by revert c; decide +kernel
theorem dev14_eq : (⟨k0_dev14 c, k0_dev14_lt c⟩ : Dev nD) = tpeer 10 c := by revert c; decide +kernel
theorem dev15_eq : (⟨k0_dev15 c, k0_dev15_lt c⟩ : Dev nD) = tpeer 11 c := by revert c; decide +kernel

/-- The device's number as the program computes it. -/
theorem word_eq : Scalar.remsi (Scalar.divsi (Dev.word c) 1#32) 8#32 = BitVec.ofNat 32 c.val := by revert c; decide +kernel

end Off

/-! ## Row sets of the two accumulators and of the two gathered buffers -/

/-- The elements of rows `lo`, …, `lo + n - 1`. -/
def rows (lo n : ℕ) : Finset S1024x512.Idx := Finset.univ.filter fun i => lo ≤ (i 0).val ∧ (i 0).val < lo + n

theorem mem_rows {lo n : ℕ} {i : S1024x512.Idx} : i ∈ rows lo n ↔ lo ≤ (i 0).val ∧ (i 0).val < lo + n := by
  unfold rows; rw [Finset.mem_filter]; exact and_iff_right (Finset.mem_univ i)

theorem lt0 (i : S1024x512.Idx) : (i 0).val < 1024 := (i 0).isLt
theorem lt1 (i : S1024x512.Idx) : (i 1).val < 512 := (i 1).isLt

theorem rect_rows {off sz : Fin 2 → ℕ} {lo n : ℕ} (ho : off = ![lo, 0]) (hs : sz = ![n, 512])
    (inb : ∀ a, off a + sz a ≤ S1024x512.size a) : (Rect.unit (s := S1024x512) off sz inb).set = rows lo n := by
  subst ho hs
  ext i
  rw [Rect.mem_set_unit, mem_rows]
  constructor
  · intro h; exact h 0
  · intro h a
    have := lt1 i
    fin_cases a
    · exact h
    · exact ⟨Nat.zero_le _, by show (i 1).val < 0 + 512; omega⟩

theorem rows_all : rows 0 1024 = Finset.univ := by
  ext i; rw [mem_rows]; have := lt0 i; simp; omega

theorem rows_disj {a m b n : ℕ} (h : a + m ≤ b ∨ b + n ≤ a) : Disjoint (rows a m) (rows b n) :=
  Finset.disjoint_left.mpr fun i hi hj => by rw [mem_rows] at hi hj; omega

theorem rows_sub {a m b n : ℕ} (h : b ≤ a ∧ a + m ≤ b + n) : rows a m ⊆ rows b n :=
  fun i hi => by rw [mem_rows] at hi ⊢; omega

theorem univ_split (h : Fin 2) (c : Dev nD) : (Finset.univ : Finset S1024x512.Idx) = rows (kLo h 0 c) 512 ∪ rows (sLo h 0 c) 512 := by
  ext i; rw [Finset.mem_union, mem_rows, mem_rows]; have := lt0 i; have := cut0 h c; simp; omega
theorem rows_split1 (h : Fin 2) (c : Dev nD) : rows (kLo h 0 c) 512 = rows (kLo h 1 c) 256 ∪ rows (sLo h 1 c) 256 := by
  ext i; rw [Finset.mem_union, mem_rows, mem_rows, mem_rows]; have := cut1 h c; omega
theorem rows_split2 (h : Fin 2) (c : Dev nD) : rows (kLo h 1 c) 256 = rows (kLo h 2 c) 128 ∪ rows (sLo h 2 c) 128 := by
  ext i; rw [Finset.mem_union, mem_rows, mem_rows, mem_rows]; have := cut2 h c; omega
theorem disj0 (h : Fin 2) (c : Dev nD) : Disjoint (rows (kLo h 0 c) 512) (rows (sLo h 0 c) 512) :=
  rows_disj (by have := cut0 h c; omega)
theorem disj1 (h : Fin 2) (c : Dev nD) : Disjoint (rows (kLo h 1 c) 256) (rows (sLo h 1 c) 256) :=
  rows_disj (by have := cut1 h c; omega)
theorem disj2 (h : Fin 2) (c : Dev nD) : Disjoint (rows (kLo h 2 c) 128) (rows (sLo h 2 c) 128) :=
  rows_disj (by have := cut2 h c; omega)

/-! ## Cutting rows out of a buffer and putting them in -/

/-- Rows `lo`, …, `lo + n - 1` of `f` (row numbers taken modulo the height, which no use here reaches). -/
def cut {α : Type} (n lo : ℕ) (f : S1024x512.Idx → α) : (⟨2, ![n, 512]⟩ : Shape).Idx → α := fun j =>
  f (ix2 (n0 := 1024) (n1 := 512) ⟨(lo + (j 0).val) % 1024, Nat.mod_lt _ (by decide)⟩ (j 1))

/-- A buffer whose rows `lo`, …, `lo + n - 1` are `w`. -/
def put {α : Type} (n lo : ℕ) (hn : 0 < n) (w : (⟨2, ![n, 512]⟩ : Shape).Idx → α) : S1024x512.Idx → α := fun i =>
  w (ix2 (n0 := n) (n1 := 512) ⟨((i 0).val - lo) % n, Nat.mod_lt _ hn⟩ (i 1))

theorem ix2_ext {n0 n1 : ℕ} {i j : (⟨2, ![n0, n1]⟩ : Shape).Idx} (h0 : (i 0).val = (j 0).val) (h1 : (i 1).val = (j 1).val) : i = j := by
  funext a; apply Fin.ext; fin_cases a
  · exact h0
  · exact h1

/-- Reading through a unit rectangle of whole rows cuts them out. -/
theorem read_rows {α : Type} {off sz : Fin 2 → ℕ} {lo n : ℕ} (ho : off = ![lo, 0]) (hs : sz = ![n, 512])
    (inb : ∀ a, off a + sz a ≤ S1024x512.size a) (f : S1024x512.Idx → α)
    (j : (Rect.unit (s := S1024x512) off sz inb).shape.Idx) (j' : (⟨2, ![n, 512]⟩ : Shape).Idx)
    (e0 : (j 0).val = (j' 0).val) (e1 : (j 1).val = (j' 1).val) :
    f ((Rect.unit (s := S1024x512) off sz inb).emb j) = cut n lo f j' := by
  subst ho hs
  unfold cut
  congr 1
  have hb : lo + n ≤ 1024 := inb 0
  have h0 : (j' 0).val < n := (j' 0).isLt
  refine ix2_ext ?_ ?_
  · rw [Rect.emb_apply]
    show lo + 1 * (j 0).val = (lo + (j' 0).val) % 1024
    rw [Nat.mod_eq_of_lt (by omega), e0]; omega
  · rw [Rect.emb_apply]
    show 0 + 1 * (j 1).val = (j' 1).val
    omega

theorem put_apply {α : Type} {n lo : ℕ} {hn : 0 < n} {w : (⟨2, ![n, 512]⟩ : Shape).Idx → α} {i : S1024x512.Idx}
    (j : (⟨2, ![n, 512]⟩ : Shape).Idx) (h0 : (i 0).val = lo + (j 0).val) (h1 : (i 1).val = (j 1).val) : put n lo hn w i = w j := by
  unfold put; congr 1
  have := (j 0).isLt
  refine ix2_ext ?_ h1
  show ((i 0).val - lo) % n = (j 0).val
  rw [h0, Nat.add_sub_cancel_left]; exact Nat.mod_eq_of_lt (j 0).isLt

theorem cut_put {α : Type} {n lo : ℕ} {hn : 0 < n} (hle : lo + n ≤ 1024) (w : (⟨2, ![n, 512]⟩ : Shape).Idx → α) :
    cut n lo (put n lo hn w) = w := by
  funext j; unfold cut
  have : (j 0).val < n := (j 0).isLt
  exact put_apply j (Nat.mod_eq_of_lt (by omega)) rfl

/-- Cutting depends only on the rows cut. -/
theorem cut_congr {α : Type} {n lo : ℕ} (hle : lo + n ≤ 1024) {f g : S1024x512.Idx → α} (h : ∀ i ∈ rows lo n, f i = g i) :
    cut n lo f = cut n lo g := by
  funext j; unfold cut; apply h; rw [mem_rows]
  have : (j 0).val < n := (j 0).isLt
  show lo ≤ (lo + (j 0).val) % 1024 ∧ (lo + (j 0).val) % 1024 < lo + n
  rw [Nat.mod_eq_of_lt (by omega)]; omega

end Cert.Moe

end
-- ==== Proof.Contents.lean ====
/-
# 01_k: what every buffer holds

Every buffer's contents, as functions of the five inputs of the eight devices and of nothing else: the routing coefficients,
the partial products a device passes on and keeps, the partial sums after each halving stage, the finished rows, and the
buffers every device has gathered at the end.  For any float values `F`.
-/
module

public import proofs.«01_k».proof.Proof.Geometry
public import proofs.«01_k».proof.Proof.Gen.KernelIdeal.Skeleton

@[expose] public section

noncomputable section

namespace Cert.Moe

open Cert.KernelIdeal Cert.KernelIdeal.Gen
open Idealize.ShloMosaic Idealize.ShloMosaic.ValueIdx

variable {F : FTy → Type} [FloatOps F]

/-- The five inputs of each device: the tokens, the router's weights, the experts the tokens go to, the device's four
    experts, its share of the shared expert. -/
structure Ins (F : FTy → Type) where
  x : Dev nD → FVec F S1024x512 .bf16
  rw : Dev nD → FVec F S512x32 .bf16
  ix : Dev nD → IVec S1024x1 32
  ew : Dev nD → FVec F S4x512x1024 .bf16
  sw : Dev nD → FVec F S512x1024 .bf16

variable (I : Ins F)

/-! ## Routing -/

/-- The device's number as a word. -/
abbrev word (c : Dev nD) : BitVec 32 := Scalar.remsi (Scalar.divsi (Dev.word c) 1#32) 8#32
/-- The number of the expert in each lane. -/
abbrev lanes : IVec S1024x32 32 := iota .tc S1024x32 32 [1] iota_S1024x32_d1_w32
/-- The router's probabilities. -/
abbrev probs (c : Dev nD) : FVec F S1024x32 .f32 := k0_pay2 (I.x c) (I.rw c)

/-- The coefficient of the device's `j`-th expert for every token, in `j = 0, …, 3`. -/
def coef0 (c : Dev nD) : FVec F S1024x1 .f32 := k0_pay4 (word c) (probs I c) (k0_pay3 (F := F) (I.ix c)) lanes
def coef1 (c : Dev nD) : FVec F S1024x1 .f32 := k0_pay5 (word c) (probs I c) (k0_pay3 (F := F) (I.ix c)) lanes
def coef2 (c : Dev nD) : FVec F S1024x1 .f32 := k0_pay8 (k0_pay6 (word c) (probs I c) lanes) (k0_pay7 (word c) (k0_pay3 (F := F) (I.ix c)))
def coef3 (c : Dev nD) : FVec F S1024x1 .f32 := k0_pay9 (word c) (probs I c) (k0_pay3 (F := F) (I.ix c)) lanes

/-- The four of them side by side. -/
def coefs (c : Dev nD) : FVec F S1024x4 .f32 := fun i =>
  (![coef0 I c, coef1 I c, coef2 I c, coef3 I c] (i 1)) (ix2 (n0 := 1024) (n1 := 1) (i 0) 0)

/-! ## The partial products -/

/-- Rows of the tokens, of a coefficient, and a quarter of an expert, as the products read them. -/
abbrev xcut (c : Dev nD) (lo : ℕ) : FVec F S512x512 .bf16 := cut 512 lo (I.x c)
def ccut (c : Dev nD) (lo : ℕ) (j : Fin 4) : FVec F S512x1 .f32 := fun i =>
  coefs I c (ix2 (n0 := 1024) (n1 := 4) ⟨(lo + (i 0).val) % 1024, Nat.mod_lt _ (by decide)⟩ j)
def ecut (c : Dev nD) (j : Fin 4) (off : ℕ) : FVec F S1x512x512 .bf16 := fun i =>
  I.ew c (ix3 (n0 := 4) (n1 := 512) (n2 := 1024) j (i 1) ⟨(off + (i 2).val) % 1024, Nat.mod_lt _ (by decide)⟩)

/-- The partial products passed on at stage `0`: left half of the columns, right half. -/
def sendA (c : Dev nD) : FVec F S512x512 .bf16 :=
  k0_pay12 (k0_pay10 (xcut I c (sLo 0 0 c))) (k0_pay11 (xcut I c (sLo 0 0 c)) (ccut I c (sLo 0 0 c) 0)) (ecut I c 0 0)
    (ccut I c (sLo 0 0 c) 1) (ecut I c 1 0) (ccut I c (sLo 0 0 c) 2) (ecut I c 2 0) (ccut I c (sLo 0 0 c) 3) (ecut I c 3 0)
def sendB (c : Dev nD) : FVec F S512x512 .bf16 :=
  k0_pay16
    (k0_pay14 (xcut I c (sLo 1 0 c)) (ccut I c (sLo 1 0 c) 0) (ecut I c 0 512) (ccut I c (sLo 1 0 c) 1) (ecut I c 1 512)
      (ccut I c (sLo 1 0 c) 2) (ecut I c 2 512))
    (k0_pay15 (xcut I c (sLo 1 0 c)) (ccut I c (sLo 1 0 c) 3) (ecut I c 3 512))

/-- The partial products kept. -/
def keepA (c : Dev nD) : FVec F S512x512 .bf16 :=
  k0_pay20 (k0_pay17 (xcut I c (kLo 0 0 c))) (k0_pay18 (xcut I c (kLo 0 0 c)) (ccut I c (kLo 0 0 c) 0) (ecut I c 0 0))
    (k0_pay19 (xcut I c (kLo 0 0 c)) (ccut I c (kLo 0 0 c) 1)) (ecut I c 1 0) (ccut I c (kLo 0 0 c) 2) (ecut I c 2 0)
    (ccut I c (kLo 0 0 c) 3) (ecut I c 3 0)
def keepB (c : Dev nD) : FVec F S512x512 .bf16 :=
  k0_pay24 (k0_pay21 (xcut I c (kLo 1 0 c))) (k0_pay22 (xcut I c (kLo 1 0 c)) (ccut I c (kLo 1 0 c) 0)) (k0_pay23 (ecut I c 0 512))
    (ccut I c (kLo 1 0 c) 1) (ecut I c 1 512) (ccut I c (kLo 1 0 c) 2) (ecut I c 2 512) (ccut I c (kLo 1 0 c) 3) (ecut I c 3 512)

/-- The accumulators before any exchange, on the rows kept at stage `0`. -/
def acc0A (c : Dev nD) : FVec F S1024x512 .bf16 := put 512 (kLo 0 0 c) (by decide) (keepA I c)
def acc0B (c : Dev nD) : FVec F S1024x512 .bf16 := put 512 (kLo 1 0 c) (by decide) (keepB I c)

/-! ## The halving stages -/

/-- After stage `0`: the partner's products added, on the rows kept at stage `0`. -/
def acc1A (c : Dev nD) : FVec F S1024x512 .bf16 := put 512 (kLo 0 0 c) (by decide) (k0_pay25 (keepA I c) (sendA I (par 1 c)))
def acc1B (c : Dev nD) : FVec F S1024x512 .bf16 := put 512 (kLo 1 0 c) (by decide) (k0_pay26 (keepB I c) (sendB I (par 2 c)))

/-- What arrives at stage `1`. -/
abbrev got1A (c : Dev nD) : FVec F S256x512 .bf16 := cut 256 (kLo 0 1 c) (acc1A I (par 0 c))
abbrev got1B (c : Dev nD) : FVec F S256x512 .bf16 := cut 256 (kLo 1 1 c) (acc1B I (par 1 c))

/-- After stage `1`, on the rows kept at stage `1`. -/
def acc2A (c : Dev nD) : FVec F S1024x512 .bf16 := put 256 (kLo 0 1 c) (by decide) (k0_pay30 (cut 256 (kLo 0 1 c) (acc1A I c)) (got1A I c))
def acc2B (c : Dev nD) : FVec F S1024x512 .bf16 := put 256 (kLo 1 1 c) (by decide) (k0_pay31 (cut 256 (kLo 1 1 c) (acc1B I c)) (got1B I c))

/-- What arrives at stage `2`. -/
abbrev got2A (c : Dev nD) : FVec F S128x512 .bf16 := cut 128 (kLo 0 2 c) (acc2A I (par 2 c))
abbrev got2B (c : Dev nD) : FVec F S128x512 .bf16 := cut 128 (kLo 1 2 c) (acc2B I (par 0 c))

/-- The finished rows of a device: its own partial sums, what arrives at stage `2`, and the shared expert's product. -/
def doneA (c : Dev nD) : FVec F S128x512 .bf16 :=
  k0_pay33 (k0_pay32 (k0_pay28 (I.sw c) (cut 128 (kLo 0 2 c) (I.x c))) (cut 128 (kLo 0 2 c) (acc2A I c)) (got2A I c))
def doneB (c : Dev nD) : FVec F S128x512 .bf16 :=
  k0_pay34 (k0_pay29 (I.sw c) (cut 128 (kLo 1 2 c) (I.x c))) (cut 128 (kLo 1 2 c) (acc2B I c)) (got2B I c)

/-! ## The gathered buffers -/

/-- The finished rows of all devices, each from its owner. -/
def gathA : FVec F S1024x512 .bf16 := fun i =>
  doneA I (owner 0 ⟨(i 0).val / 128, by have := lt0 i; omega⟩) (ix2 (n0 := 128) (n1 := 512) ⟨(i 0).val % 128, Nat.mod_lt _ (by decide)⟩ (i 1))
def gathB : FVec F S1024x512 .bf16 := fun i =>
  doneB I (owner 1 ⟨(i 0).val / 128, by have := lt0 i; omega⟩) (ix2 (n0 := 128) (n1 := 512) ⟨(i 0).val % 128, Nat.mod_lt _ (by decide)⟩ (i 1))

/-- The result: the left half of the columns from one gathered buffer, the right half from the other. -/
def outF : FVec F S1024x1024 .f32 := fun i =>
  if h : (i 1).val < 512 then extf .f32 (gathA I) bitsLt_bf16_f32 (ix2 (n0 := 1024) (n1 := 512) (i 0) ⟨(i 1).val, h⟩)
  else extf .f32 (gathB I) bitsLt_bf16_f32 (ix2 (n0 := 1024) (n1 := 512) (i 0) ⟨(i 1).val - 512, by have : (i 1).val < 1024 := (i 1).isLt; omega⟩)

/-! ## The gathered buffers at their owners' rows -/

theorem gath_of {d : Dev nD → FVec F S128x512 .bf16} {h : Fin 2} {c : Dev nD} {i : S1024x512.Idx} (hi : i ∈ rows (kLo h 2 c) 128) :
    d (owner h ⟨(i 0).val / 128, by have := lt0 i; omega⟩) (ix2 (n0 := 128) (n1 := 512) ⟨(i 0).val % 128, Nat.mod_lt _ (by decide)⟩ (i 1))
      = put 128 (kLo h 2 c) (by decide) (d c) i := by
  rw [mem_rows] at hi
  have hm := kLo2_mod h c
  have e : owner h ⟨(i 0).val / 128, by have := lt0 i; omega⟩ = c := owner_kLo h c _ (by show kLo h 2 c = 128 * ((i 0).val / 128); omega)
  rw [e]
  unfold put
  congr 1
  refine ix2_ext ?_ rfl
  show (i 0).val % 128 = ((i 0).val - kLo h 2 c) % 128
  omega

theorem gathA_own (c : Dev nD) : ∀ i ∈ rows (kLo 0 2 c) 128, gathA I i = put 128 (kLo 0 2 c) (by decide) (doneA I c) i :=
  fun _ hi => gath_of hi
theorem gathB_own (c : Dev nD) : ∀ i ∈ rows (kLo 1 2 c) 128, gathB I i = put 128 (kLo 1 2 c) (by decide) (doneB I c) i :=
  fun _ hi => gath_of hi

end Cert.Moe

end
-- ==== Proof.Schedule.lean ====
/-
# 01_k: the protocol

The kernel's semaphores as cells of one round each.  A device's barrier cell gets one unit from each of its three partners, and
with it the partner's landing places for the device's transfers to that partner.  Each of the twelve transfers has a send cell and a
receive cell: the receive cell's payment is the landing place filled, the send cell's the source given back.  A device owes its partners
what its transfers will credit; the levels rank the barrier first and the transfers by stage.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the kernel's own cells: a cell's duties are numbered by the partner that pays them. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barS : Sem sig := (SemArray.scalar (sig.barrier 0 rfl) : Sems sig S_).sem

/-- One semaphore of an array of six. -/
abbrev semAt (a : DmaSems sig S6) (off : Fin 1 → ℕ) (inb : ∀ x, off x + S1.size x ≤ S6.size x) : DmaSem sig :=
  ((a.slice (Rect.unit (s := S6) off S1.size inb)).squeeze S_ squeezes_S1_S_).sem

/-- The semaphore transfer `t` raises at its source when it has been read out, … -/
abbrev sendSem : Fin 12 → DmaSem sig
  | 0 => semAt cc0_scratch13 ![0] inb_S6_S1_0 | 1 => semAt cc0_scratch13 ![3] inb_S6_S1_3
  | 2 => semAt cc0_scratch13 ![1] inb_S6_S1_1 | 3 => semAt cc0_scratch13 ![4] inb_S6_S1_4
  | 4 => semAt cc0_scratch13 ![2] inb_S6_S1_2 | 5 => semAt cc0_scratch13 ![5] inb_S6_S1_5
  | 6 => semAt cc0_scratch15 ![0] inb_S6_S1_0 | 7 => semAt cc0_scratch15 ![3] inb_S6_S1_3
  | 8 => semAt cc0_scratch15 ![1] inb_S6_S1_1 | 9 => semAt cc0_scratch15 ![4] inb_S6_S1_4
  | 10 => semAt cc0_scratch15 ![2] inb_S6_S1_2 | 11 => semAt cc0_scratch15 ![5] inb_S6_S1_5

/-- … and the one it raises where it lands. -/
abbrev recvSem : Fin 12 → DmaSem sig
  | 0 => semAt cc0_scratch14 ![0] inb_S6_S1_0 | 1 => semAt cc0_scratch14 ![3] inb_S6_S1_3
  | 2 => semAt cc0_scratch14 ![1] inb_S6_S1_1 | 3 => semAt cc0_scratch14 ![4] inb_S6_S1_4
  | 4 => semAt cc0_scratch14 ![2] inb_S6_S1_2 | 5 => semAt cc0_scratch14 ![5] inb_S6_S1_5
  | 6 => semAt cc0_scratch16 ![0] inb_S6_S1_0 | 7 => semAt cc0_scratch16 ![3] inb_S6_S1_3
  | 8 => semAt cc0_scratch16 ![1] inb_S6_S1_1 | 9 => semAt cc0_scratch16 ![4] inb_S6_S1_4
  | 10 => semAt cc0_scratch16 ![2] inb_S6_S1_2 | 11 => semAt cc0_scratch16 ![5] inb_S6_S1_5

/-- The kernel's own semaphores: `(false, t)` the send side of transfer `t`, `(true, t)` its receive side. -/
abbrev osem (k : Bool × Fin 12) : SemLoc sig := .dma (bif k.1 then recvSem k.2 else sendSem k.2)

abbrev barCell (c : Dev nD) : GSem nD τ sig := ((c : Thread nD τ), .reg barS)
abbrev sendCell (t : Fin 12) (c : Dev nD) : GSem nD τ sig := ((c : Thread nD τ), .dma (sendSem t))
abbrev recvCell (t : Fin 12) (c : Dev nD) : GSem nD τ sig := ((c : Thread nD τ), .dma (recvSem t))

/-- All of them with the barrier: `none`. -/
abbrev csem : Option (Bool × Fin 12) → SemLoc sig
  | none => .reg barS
  | some k => osem k
abbrev kcell (ck : Dev nD × Option (Bool × Fin 12)) : GSem nD τ sig := ((ck.1 : Thread nD τ), csem ck.2)

/-- Which of the kernel's own semaphores `s` is. -/
def which (s : SemLoc sig) : Option (Bool × Fin 12) :=
  ((List.finRange 12).map (fun t => (false, t)) ++ (List.finRange 12).map fun t => (true, t)).find? fun k => decide (osem k = s)

theorem which_osem (k : Bool × Fin 12) : which (osem k) = some k := by revert k; decide +kernel
theorem which_send (t : Fin 12) : which (.dma (sendSem t)) = some (false, t) := which_osem (false, t)
theorem which_recv (t : Fin 12) : which (.dma (recvSem t)) = some (true, t) := which_osem (true, t)
theorem which_bar : which (.reg barS) = none := by decide +kernel
theorem csem_injective : Function.Injective csem := by
  intro a b h
  have := congrArg which h
  cases a <;> cases b <;> simp_all [which_osem, which_bar]

/-- The credit of transfer `t`. -/
def NN : Fin 12 → ℕ := ![16384, 16384, 8192, 8192, 4096, 4096, 4096, 4096, 8192, 8192, 16384, 16384]
theorem NN_pos (t : Fin 12) : 0 < NN t := by revert t; decide

/-! ## What changes hands -/

section Pay
variable (I : Ins F) (c : Dev nD)

/-- The landing place of transfer `t` on device `c`, at whatever contents. -/
def landing (t : Fin 12) : sProp 𝕄 := match t with
  | 0 => iprop(∃ f : Buf (Elt F) ((c : Thread nD τ).loc cc0_scratch6), ((c : Thread nD τ).loc cc0_scratch6) ↦{fullShare} f)
  | 1 => iprop(∃ f : Buf (Elt F) ((c : Thread nD τ).loc cc0_scratch9), ((c : Thread nD τ).loc cc0_scratch9) ↦{fullShare} f)
  | 2 => iprop(∃ f : Buf (Elt F) ((c : Thread nD τ).loc cc0_scratch7), ((c : Thread nD τ).loc cc0_scratch7) ↦{fullShare} f)
  | 3 => iprop(∃ f : Buf (Elt F) ((c : Thread nD τ).loc cc0_scratch10), ((c : Thread nD τ).loc cc0_scratch10) ↦{fullShare} f)
  | 4 => iprop(∃ f : Buf (Elt F) ((c : Thread nD τ).loc cc0_scratch8), ((c : Thread nD τ).loc cc0_scratch8) ↦{fullShare} f)
  | 5 => iprop(∃ f : Buf (Elt F) ((c : Thread nD τ).loc cc0_scratch11), ((c : Thread nD τ).loc cc0_scratch11) ↦{fullShare} f)
  | 6 => iprop(∃ f : Buf (Elt F) ((c : Thread nD τ).loc cc0_scratch2), ((c : Thread nD τ).loc cc0_scratch2) ↦[rows (sLo 0 2 c) 128]{fullShare} f)
  | 7 => iprop(∃ f : Buf (Elt F) ((c : Thread nD τ).loc cc0_scratch3), ((c : Thread nD τ).loc cc0_scratch3) ↦[rows (sLo 1 2 c) 128]{fullShare} f)
  | 8 => iprop(∃ f : Buf (Elt F) ((c : Thread nD τ).loc cc0_scratch2), ((c : Thread nD τ).loc cc0_scratch2) ↦[rows (sLo 0 1 c) 256]{fullShare} f)
  | 9 => iprop(∃ f : Buf (Elt F) ((c : Thread nD τ).loc cc0_scratch3), ((c : Thread nD τ).loc cc0_scratch3) ↦[rows (sLo 1 1 c) 256]{fullShare} f)
  | 10 => iprop(∃ f : Buf (Elt F) ((c : Thread nD τ).loc cc0_scratch2), ((c : Thread nD τ).loc cc0_scratch2) ↦[rows (sLo 0 0 c) 512]{fullShare} f)
  | 11 => iprop(∃ f : Buf (Elt F) ((c : Thread nD τ).loc cc0_scratch3), ((c : Thread nD τ).loc cc0_scratch3) ↦[rows (sLo 1 0 c) 512]{fullShare} f)

/-- The landing place of transfer `t` on device `c`, filled. -/
def recvPay (t : Fin 12) : sProp 𝕄 := match t with
  | 0 => ((c : Thread nD τ).loc cc0_scratch6) ↦{fullShare} (sendA I (par 1 c))
  | 1 => ((c : Thread nD τ).loc cc0_scratch9) ↦{fullShare} (sendB I (par 2 c))
  | 2 => ((c : Thread nD τ).loc cc0_scratch7) ↦{fullShare} (got1A I c)
  | 3 => ((c : Thread nD τ).loc cc0_scratch10) ↦{fullShare} (got1B I c)
  | 4 => ((c : Thread nD τ).loc cc0_scratch8) ↦{fullShare} (got2A I c)
  | 5 => ((c : Thread nD τ).loc cc0_scratch11) ↦{fullShare} (got2B I c)
  | 6 => ((c : Thread nD τ).loc cc0_scratch2) ↦[rows (sLo 0 2 c) 128]{fullShare} (gathA I)
  | 7 => ((c : Thread nD τ).loc cc0_scratch3) ↦[rows (sLo 1 2 c) 128]{fullShare} (gathB I)
  | 8 => ((c : Thread nD τ).loc cc0_scratch2) ↦[rows (sLo 0 1 c) 256]{fullShare} (gathA I)
  | 9 => ((c : Thread nD τ).loc cc0_scratch3) ↦[rows (sLo 1 1 c) 256]{fullShare} (gathB I)
  | 10 => ((c : Thread nD τ).loc cc0_scratch2) ↦[rows (sLo 0 0 c) 512]{fullShare} (gathA I)
  | 11 => ((c : Thread nD τ).loc cc0_scratch3) ↦[rows (sLo 1 0 c) 512]{fullShare} (gathB I)

/-- The source of transfer `t` on device `c`, given back: in the halving stages at contents nobody reads again, in the doubling
    stages the half share lent, at the finished rows. -/
def sendPay (t : Fin 12) : sProp 𝕄 := match t with
  | 0 => iprop(∃ f : Buf (Elt F) ((c : Thread nD τ).loc cc0_scratch4), ((c : Thread nD τ).loc cc0_scratch4) ↦{fullShare} f)
  | 1 => iprop(∃ f : Buf (Elt F) ((c : Thread nD τ).loc cc0_scratch5), ((c : Thread nD τ).loc cc0_scratch5) ↦{fullShare} f)
  | 2 => iprop(∃ f : Buf (Elt F) ((c : Thread nD τ).loc cc0_scratch0), ((c : Thread nD τ).loc cc0_scratch0) ↦[rows (sLo 0 1 c) 256]{fullShare} f)
  | 3 => iprop(∃ f : Buf (Elt F) ((c : Thread nD τ).loc cc0_scratch1), ((c : Thread nD τ).loc cc0_scratch1) ↦[rows (sLo 1 1 c) 256]{fullShare} f)
  | 4 => iprop(∃ f : Buf (Elt F) ((c : Thread nD τ).loc cc0_scratch0), ((c : Thread nD τ).loc cc0_scratch0) ↦[rows (sLo 0 2 c) 128]{fullShare} f)
  | 5 => iprop(∃ f : Buf (Elt F) ((c : Thread nD τ).loc cc0_scratch1), ((c : Thread nD τ).loc cc0_scratch1) ↦[rows (sLo 1 2 c) 128]{fullShare} f)
  | 6 => ((c : Thread nD τ).loc cc0_scratch2) ↦[rows (kLo 0 2 c) 128]{fullShare.right} (gathA I)
  | 7 => ((c : Thread nD τ).loc cc0_scratch3) ↦[rows (kLo 1 2 c) 128]{fullShare.right} (gathB I)
  | 8 => ((c : Thread nD τ).loc cc0_scratch2) ↦[rows (kLo 0 1 c) 256]{fullShare.right} (gathA I)
  | 9 => ((c : Thread nD τ).loc cc0_scratch3) ↦[rows (kLo 1 1 c) 256]{fullShare.right} (gathB I)
  | 10 => ((c : Thread nD τ).loc cc0_scratch2) ↦[rows (kLo 0 0 c) 512]{fullShare.right} (gathA I)
  | 11 => ((c : Thread nD τ).loc cc0_scratch3) ↦[rows (kLo 1 0 c) 512]{fullShare.right} (gathB I)

/-- What partner number `d` hands over with its barrier unit: its landing places for the transfers to it. -/
def barPay (d : Fin 3) : sProp 𝕄 := match d with
  | 0 => iprop(landing (par 0 c) 2 ∗ landing (par 0 c) 5 ∗ landing (par 0 c) 7 ∗ landing (par 0 c) 8)
  | 1 => iprop(landing (par 1 c) 0 ∗ landing (par 1 c) 3 ∗ landing (par 1 c) 9 ∗ landing (par 1 c) 10)
  | 2 => iprop(landing (par 2 c) 1 ∗ landing (par 2 c) 4 ∗ landing (par 2 c) 6 ∗ landing (par 2 c) 11)

omit [FloatOps F] in
instance landing_storable (t : Fin 12) : BI.Storable (upEmb : UEmb _ 𝕄) (landing (F := F) c t) := by
  unfold landing; split <;> infer_instance
instance recvPay_storable (t : Fin 12) : BI.Storable (upEmb : UEmb _ 𝕄) (recvPay I c t) := by
  unfold recvPay; split <;> infer_instance
instance sendPay_storable (t : Fin 12) : BI.Storable (upEmb : UEmb _ 𝕄) (sendPay I c t) := by
  unfold sendPay; split <;> infer_instance
omit [FloatOps F] in
instance barPay_storable (d : Fin 3) : BI.Storable (upEmb : UEmb _ 𝕄) (barPay (F := F) c d) := by
  unfold barPay; split <;> infer_instance

end Pay

/-! ## The schedule -/

variable (I : Ins F)

/-- One round a cell: the barrier's three duties of one unit, a transfer's one duty of its credit on either side. -/
def moeRd : Rounds.Schedule (GSem nD τ sig) (Fin 3) 𝕄 where
  duties g r := if r = 0 ∧ g.1.2 = .tc then (if g.2 = .reg barS then Finset.univ else {0}) else ∅
  unitless _ := False
  amount g _ _ := match which g.2 with
    | some k => NN k.2
    | none => 1
  payload g _ d := match which g.2 with
    | some (true, t) => recvPay I g.1.1 t
    | some (false, t) => sendPay I g.1.1 t
    | none => if g.2 = .reg barS then barPay g.1.1 d else iprop(emp)
  amount_pos g _ _ _ := by
    show 0 < match which g.2 with
      | some k => NN k.2
      | none => 1
    split
    · exact NN_pos _
    · exact Nat.one_pos

instance moeRd_payload_storable (g : GSem nD τ sig) (r : ℕ) (d : Fin 3) :
    BI.Storable (upEmb : UEmb _ 𝕄) ((moeRd I).payload g r d) := by
  show BI.Storable upEmb (match which g.2 with
    | some (true, t) => recvPay I g.1.1 t
    | some (false, t) => sendPay I g.1.1 t
    | none => if g.2 = .reg barS then barPay g.1.1 d else iprop(emp))
  (repeat' split) <;> infer_instance

section Sched
variable (t : Fin 12) (c : Dev nD)

theorem duties_bar : (moeRd I).duties (barCell c) 0 = Finset.univ := by dsimp only [moeRd]; rw [if_pos ⟨rfl, rfl⟩, if_pos rfl]
theorem duties_dma (q : DmaSem sig) : (moeRd I).duties ((c : Thread nD τ), .dma q) 0 = {0} := by
  dsimp only [moeRd]; rw [if_pos ⟨rfl, rfl⟩, if_neg (fun h => by cases h)]
theorem duties_later (g : GSem nD τ sig) : ∀ r, 1 ≤ r → (moeRd I).duties g r = ∅ :=
  fun r hr => by dsimp only [moeRd]; exact if_neg fun h => by omega

theorem amount_bar (d : Fin 3) : (moeRd I).amount (barCell c) 0 d = 1 := by dsimp only [moeRd]; rw [which_bar]
theorem amount_send (d : Fin 3) : (moeRd I).amount (sendCell t c) 0 d = NN t := by dsimp only [moeRd]; rw [which_send]
theorem amount_recv (d : Fin 3) : (moeRd I).amount (recvCell t c) 0 d = NN t := by dsimp only [moeRd]; rw [which_recv]

theorem expect_bar : (moeRd I).expect (barCell c) 0 = 3 := by
  unfold Schedule.expect Schedule.amountOf
  rw [duties_bar, Finset.sum_congr rfl fun d _ => amount_bar I c d]; rfl
theorem expect_send : (moeRd I).expect (sendCell t c) 0 = NN t := by
  unfold Schedule.expect Schedule.amountOf; rw [duties_dma, Finset.sum_singleton, amount_send]
theorem expect_recv : (moeRd I).expect (recvCell t c) 0 = NN t := by
  unfold Schedule.expect Schedule.amountOf; rw [duties_dma, Finset.sum_singleton, amount_recv]

theorem payload_bar (d : Fin 3) : (moeRd I).payload (barCell c) 0 d = barPay c d := by dsimp only [moeRd]; rw [which_bar]; exact if_pos rfl
theorem payload_send (d : Fin 3) : (moeRd I).payload (sendCell t c) 0 d = sendPay I c t := by dsimp only [moeRd]; rw [which_send]
theorem payload_recv (d : Fin 3) : (moeRd I).payload (recvCell t c) 0 d = recvPay I c t := by dsimp only [moeRd]; rw [which_recv]

theorem rest_bar : bigSep ((moeRd I).duties (barCell c) 0 \ ∅) (fun d => (moeRd I).payload (barCell c) 0 d)
    = iprop(barPay c 0 ∗ barPay c 1 ∗ barPay c 2) := by
  rw [Finset.sdiff_empty, duties_bar, bigSep_univ_eq_bigSepL [0, 1, 2] (by decide) (by decide)]
  show iprop((moeRd I).payload (barCell c) 0 0 ∗ (moeRd I).payload (barCell c) 0 1 ∗ (moeRd I).payload (barCell c) 0 2) = _
  rw [payload_bar, payload_bar, payload_bar]
theorem rest_send : bigSep ((moeRd I).duties (sendCell t c) 0 \ ∅) (fun d => (moeRd I).payload (sendCell t c) 0 d) = sendPay I c t := by
  rw [Finset.sdiff_empty, duties_dma, bigSep_singleton, payload_send]
theorem rest_recv : bigSep ((moeRd I).duties (recvCell t c) 0 \ ∅) (fun d => (moeRd I).payload (recvCell t c) 0 d) = recvPay I c t := by
  rw [Finset.sdiff_empty, duties_dma, bigSep_singleton, payload_recv]

end Sched

/-! ## What each device owes, and the levels -/

/-- What device `c` owes for the transfers in a list: each one's credit to its landing cell. -/
def owedFrom (c : Dev nD) : List (Fin 12) → CellTallies nD τ sig Unit
  | [] => 0
  | t :: ts => owedFrom c ts + tallyAt (recvCell t (tpeer t c)) () (NN t)

/-- All transfers, in the order they are started. -/
abbrev allT : List (Fin 12) := [0, 1, 2, 3, 4, 5, 6, 7, 8, 9, 10, 11]

/-- At the launch a device owes its twelve transfers and a unit to each partner's barrier. -/
def O₀ (c : Dev nD) : CellTallies nD τ sig Unit :=
  ((owedFrom c allT + tallyAt (barCell (par 2 c)) () 1) + tallyAt (barCell (par 1 c)) () 1) + tallyAt (barCell (par 0 c)) () 1

def L (g : GSem nD τ sig) : Finset Unit := if g.1.2 = .tc then {()} else ∅
/-- The barrier at level `1`, the receive side of stage `s` at level `2 + s`, all else at level `0`. -/
def lvs (s : SemLoc sig) : ℕ := if s = .reg barS then 1 else match which s with
  | some (true, t) => 2 + t.val / 2
  | _ => 0
def lv (g : GSem nD τ sig) (_ : Unit) : ℕ := lvs g.2
theorem L_of_ne (g : GSem nD τ sig) (h : g.1.2 ≠ .tc) : L g = ∅ := if_neg h
theorem L_tc (c : Dev nD) (sm : SemLoc sig) : L ((c : Thread nD τ), sm) = {()} := if_pos rfl
theorem lvs_bar : lvs (.reg barS) = 1 := if_pos rfl
theorem lvs_send (t : Fin 12) : lvs (.dma (sendSem t)) = 0 := by
  unfold lvs; rw [if_neg (fun h => by cases h), which_send]
theorem lvs_recv (t : Fin 12) : lvs (.dma (recvSem t)) = 2 + t.val / 2 := by
  unfold lvs; rw [if_neg (fun h => by cases h), which_recv]

theorem tally_pos {g' : GSem nD τ sig} {n : ℕ} {g : GSem nD τ sig} {u : Unit} (h : 0 < tallyAt g' () n g u) : g = g' := by
  rw [tallyAt_apply] at h
  by_contra hn
  rw [if_neg (fun h' => hn h'.1)] at h
  exact Nat.lt_irrefl 0 h

theorem owedFrom_pos {c : Dev nD} {g : GSem nD τ sig} {u : Unit} : ∀ {l : List (Fin 12)}, 0 < owedFrom c l g u → ∃ t ∈ l, g = recvCell t (tpeer t c)
  | [], h => absurd h (Nat.lt_irrefl 0)
  | t :: ts, h => by
    unfold owedFrom at h
    rw [Pi.add_apply, Finsupp.add_apply] at h
    rcases Nat.add_pos_iff_pos_or_pos.mp h with h | h
    · obtain ⟨t', ht, e⟩ := owedFrom_pos h
      exact ⟨t', List.mem_cons_of_mem _ ht, e⟩
    · exact ⟨t, List.mem_cons_self, tally_pos h⟩

theorem O₀_pos {c : Dev nD} {g : GSem nD τ sig} {u : Unit} (h : 0 < O₀ c g u) :
    (∃ t, g = recvCell t (tpeer t c)) ∨ ∃ i, g = barCell (par i c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨t, -, e⟩ := owedFrom_pos h; exact .inl ⟨t, e⟩
      · exact .inr ⟨2, tally_pos h⟩
    · exact .inr ⟨1, tally_pos h⟩
  · exact .inr ⟨0, tally_pos h⟩

omit [FloatOps F] in
/-- A device may wait on a semaphore ranked below everything it owes. -/
theorem mayWait (c : Dev nD) (sm : SemLoc sig) (n : ℕ) (hn : lvs sm ≤ n) (O : CellTallies nD τ sig Unit)
    (hO : ∀ g u, 0 < O g u → g.1.2 = .tc ∧ n < lvs g.2) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

omit [FloatOps F] in
theorem mayWait_from (c : Dev nD) (sm : SemLoc sig) (l : List (Fin 12)) (h : ∀ t ∈ l, lvs sm < 2 + t.val / 2) :
    (levAts L lv : sProp 𝕄) ⊢ MayWait (c : Thread nD τ) sm () (owedFrom c l) :=
  mayWait c sm (lvs sm) le_rfl _ fun g u hg => by
    obtain ⟨t, ht, rfl⟩ := owedFrom_pos hg
    exact ⟨rfl, (h t ht).trans_eq (lvs_recv t).symm⟩

omit [FloatOps F] in
theorem mayWait_stage (c : Dev nD) (q : DmaSem sig) (hq : lvs (.dma q) = 0) (O : CellTallies nD τ sig Unit) (hO : O = O₀ c ∨ O = 0) :
    (levAts L lv : sProp 𝕄) ⊢ MayWait (c : Thread nD τ) (.dma q) () O := by
  rcases hO with rfl | rfl
  · refine mayWait c _ 0 hq.le _ fun g u hg => ?_
    rcases O₀_pos hg with ⟨t, rfl⟩ | ⟨i, rfl⟩
    · exact ⟨rfl, by show 0 < lvs (.dma (recvSem t)); rw [lvs_recv]; omega⟩
    · exact ⟨rfl, by show 0 < lvs (.reg barS); rw [lvs_bar]; exact Nat.one_pos⟩
  · rw [MayWait_zero]; iintro -; iempintro

end Cert.Moe

end
-- ==== Proof.Steps.lean ====
/-
# 01_k: one operation at a time

What the body's operations do to what a device holds: a load, a store, the start of a transfer, the two waits of a transfer.
Each is stated once, for any transfer and any place, and the body's parts are chains of them.
-/
module

public import proofs.«01_k».proof.Proof.Schedule

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, having waited on whatever it has. -/
def ow (c : Dev nD) (O : CellTallies nD τ sig Unit) : sProp 𝕄 := iprop(∃ W, owes (c : Thread nD τ) O W)

variable (I : Ins F) (K : Dev nD × Option (Bool × Fin 12) → ℕ) (c : Dev nD)

/-- What every device knows throughout: the cells' invariants, that every cell is at its round, the levels. -/
def ctx : sProp 𝕄 :=
  iprop(bigSep Finset.univ (fun ck => cellInv ER (moeRd I) (K ck) (kcell ck)) ∗ bigSep Finset.univ (fun ck => reached ER (kcell ck) 0) ∗ levAts L lv)

instance ctx_persistent : BI.Persistent (ctx I K) := by unfold ctx; infer_instance

theorem invs_at (ck : Dev nD × Option (Bool × Fin 12)) :
    (bigSep Finset.univ (fun ck => cellInv ER (moeRd I) (K ck) (kcell ck)) : sProp 𝕄) ⊢ cellInv ER (moeRd I) (K ck) (kcell ck) :=
  bigSep_elim (Finset.mem_univ ck)
theorem reached_at (ck : Dev nD × Option (Bool × Fin 12)) :
    (bigSep Finset.univ (fun ck => reached ER (kcell ck) 0) : sProp 𝕄) ⊢ reached ER (kcell ck) 0 :=
  bigSep_elim (Finset.mem_univ ck)
theorem ctx_inv (ck : Dev nD × Option (Bool × Fin 12)) : ctx I K ⊢ cellInv ER (moeRd I) (K ck) (kcell ck) := by
  unfold ctx
  iintro ⟨H, -⟩
  iapply (invs_at I K ck); iexact H
theorem ctx_reached (ck : Dev nD × Option (Bool × Fin 12)) : ctx I K ⊢ reached ER (kcell ck) 0 := by
  unfold ctx
  iintro ⟨-, H, -⟩
  iapply (reached_at ck); iexact H
theorem ctx_lev : ctx I K ⊢ levAts L lv := by unfold ctx; iintro ⟨-, -, H⟩; iexact H

/-- A part of the body on the kernel's own buffers and semaphores. -/
abbrev onBufs {β : Sort*} (f : (a0 : Memref sig .tc .vmem S1024x512 .bf16) → a0.IsWhole → (a1 : Memref sig .tc .vmem S512x32 .bf16) → a1.IsWhole → (a2 : Memref sig .tc .vmem S1024x1 .i32) → a2.IsWhole →
      (a3 : Memref sig .tc .vmem S4x512x1024 .bf16) → a3.IsWhole → (a4 : Memref sig .tc .vmem S512x1024 .bf16) → a4.IsWhole → (a5 : Memref sig .tc .vmem S1024x1024 .f32) → a5.IsWhole →
      (a6 : Memref sig .tc .vmem S1024x512 .bf16) → a6.IsWhole → (a7 : Memref sig .tc .vmem S1024x512 .bf16) → a7.IsWhole → (a8 : Memref sig .tc .vmem S1024x512 .bf16) → a8.IsWhole →
      (a9 : Memref sig .tc .vmem S1024x512 .bf16) → a9.IsWhole → (a10 : Memref sig .tc .vmem S512x512 .bf16) → a10.IsWhole → (a11 : Memref sig .tc .vmem S512x512 .bf16) → a11.IsWhole →
      (a12 : Memref sig .tc .vmem S512x512 .bf16) → a12.IsWhole → (a13 : Memref sig .tc .vmem S256x512 .bf16) → a13.IsWhole → (a14 : Memref sig .tc .vmem S128x512 .bf16) → a14.IsWhole →
      (a15 : Memref sig .tc .vmem S512x512 .bf16) → a15.IsWhole → (a16 : Memref sig .tc .vmem S256x512 .bf16) → a16.IsWhole → (a17 : Memref sig .tc .vmem S128x512 .bf16) → a17.IsWhole →
      (a18 : Memref sig .tc .vmem S1024x4 .f32) → a18.IsWhole → DmaSems sig S6 → DmaSems sig S6 → DmaSems sig S6 → DmaSems sig S6 → β) : β :=
  f (.whole cc0_stg0_0) (Memref.isWhole_whole _) (.whole cc0_stg1_0) (Memref.isWhole_whole _) (.whole cc0_stg2_0) (Memref.isWhole_whole _)
    (.whole cc0_stg3_0) (Memref.isWhole_whole _) (.whole cc0_stg4_0) (Memref.isWhole_whole _) (.whole cc0_stg5_0) (Memref.isWhole_whole _)
    (.whole cc0_scratch0) (Memref.isWhole_whole _) (.whole cc0_scratch1) (Memref.isWhole_whole _) (.whole cc0_scratch2) (Memref.isWhole_whole _)
    (.whole cc0_scratch3) (Memref.isWhole_whole _) (.whole cc0_scratch4) (Memref.isWhole_whole _) (.whole cc0_scratch5) (Memref.isWhole_whole _)
    (.whole cc0_scratch6) (Memref.isWhole_whole _) (.whole cc0_scratch7) (Memref.isWhole_whole _) (.whole cc0_scratch8) (Memref.isWhole_whole _)
    (.whole cc0_scratch9) (Memref.isWhole_whole _) (.whole cc0_scratch10) (Memref.isWhole_whole _) (.whole cc0_scratch11) (Memref.isWhole_whole _)
    (.whole cc0_scratch12) (Memref.isWhole_whole _) cc0_scratch13 cc0_scratch14 cc0_scratch15 cc0_scratch16

/-- A whole buffer of device `c`, held in full. -/
abbrev has (b : Ref sig .tc) (f : Buf (Elt F) ((c : Thread nD τ).loc b)) : sProp 𝕄 := ((c : Thread nD τ).loc b) ↦{fullShare} f

/-! ## A transfer -/

/-- What a device needs to start transfer `t`: the duties of its two payments. -/
def toks (t : Fin 12) : sProp 𝕄 := iprop(dutyTok ER (sendCell t c) 0 0 ∗ dutyTok ER (recvCell t (tpeer t c)) 0 0)
/-- What it needs to wait for the transfer of the same number to it, … -/
def posR (t : Fin 12) : sProp 𝕄 := iprop(atPos ER (recvCell t c) 0 ∅ 0 ∗ cred (tallyAt (recvCell t c) () (NN t)))
/-- … and for its own to have left. -/
def posS (t : Fin 12) : sProp 𝕄 := atPos ER (sendCell t c) 0 ∅ 0
/-- The send credit of transfer `t`. -/
def credS (t : Fin 12) : sProp 𝕄 := cred (tallyAt (sendCell t c) () (NN t))

/-- The start of transfer `t`: the source and the landing place go, the credit of its own wait comes. -/
theorem wp_xfer (t : Fin 12) (ts : List (Fin 12)) {n : Dev nD} (hn : n = tpeer t c) {s : Shape} {src : Memref sig .tc .vmem s .bf16}
    {dst : Memref sig (Dev.tc n : Thread nD τ).2.kind .vmem s .bf16}
    {hsc : dst.view.ref.isScScratch = false} {hsrc : src.view.WordExact} {hdst : dst.view.WordExact}
    {hsem : DmaTarget.Typed .vmem (.dma (recvSem t)) (.remote (Dev.tc n : Thread nD τ) dst (.dma (sendSem t)) hsc)}
    {α : Type} {Q : α → sProp 𝕄} {k : PUnit → Prog (TpuEff nD τ sig (Elt F) Λ₀ .tc) α} {q : PosShare TreeShare}
    {fs : Buf (Elt F) (src.view.loc (c : Thread nD τ))} {fd : Buf (Elt F) (dst.view.loc (tpeer t c : Thread nD τ))}
    {S : Finset (Idx (src.view.loc (c : Thread nD τ)))} (hSS : src.view.set = S) {D : Finset (Idx (dst.view.loc (tpeer t c : Thread nD τ)))} (hDD : dst.view.set = D)
    (hN : dst.view.amount (.dma (recvSem t)) = NN t)
    (hS : (src.view.loc (c : Thread nD τ) ↦[S]{q} fs) ⊢ sendPay I c t)
    (hR : (dst.view.loc (tpeer t c : Thread nD τ) ↦[D]{fullShare} (dst.view.write (Elt F) fd (src.view.read (Elt F) fs) Finset.univ))
      ⊢ recvPay I (tpeer t c) t) :
    iprop(ctx I K ∗ (src.view.loc (c : Thread nD τ) ↦[S]{q} fs) ∗ (dst.view.loc (tpeer t c : Thread nD τ) ↦[D]{fullShare} fd)
        ∗ ow c (owedFrom c (t :: ts)) ∗ toks c t)
      ⊢ iprop(((credS c t ∗ ow c (owedFrom c ts)) -∗ WP c (k ⟨⟩) Q)
          -∗ WP c (.op (.enqueueDma src (.remote (Dev.tc n : Thread nD τ) dst (.dma (sendSem t)) hsc) (.dma (recvSem t)) hsrc hdst hsem) k) Q) := by
  subst hn hSS hDD
  iintro ⟨#Hc, Hs, Hd, Ho, Ht⟩ Hk
  unfold ow toks
  icases Ho with ⟨%W, Ho⟩
  icases Ht with ⟨HtS, HtR⟩
  iapply (Rounds.wp_send_pointsTo 𝒱₀ ER (moeRd I) (c : Thread nD τ) none (κ₁ := K (c, some (false, t))) (κ₂ := K (tpeer t c, some (true, t)))
    (r₁ := 0) (r₂ := 0) (d₁ := 0) (d₂ := 0) (fd := fd)
    (by rw [duties_dma]; exact Finset.mem_singleton_self _) (by rw [duties_dma]; exact Finset.mem_singleton_self _)
    () () (NN t) hN (amount_send I t c 0) (amount_recv I t (tpeer t c) 0) (owedFrom c ts) rfl (W := W)
    (by rw [payload_send]; exact hS) (by rw [payload_recv]; exact hR)) $$ [Hs Hd Ho HtS HtR]
  · isplitr; · iapply (ctx_inv I K (c, some (false, t))); iexact Hc
    isplitr; · iapply (ctx_inv I K (tpeer t c, some (true, t))); iexact Hc
    isplitl [Hs]; · iexact Hs
    isplitl [Hd]; · iexact Hd
    isplitl [Ho]; · iexact Ho
    isplitl [HtS]; · iexact HtS
    isplitr; · iapply (ctx_reached I K (c, some (false, t))); iexact Hc
    isplitl [HtR]; · iexact HtR
    iapply (ctx_reached I K (tpeer t c, some (true, t))); iexact Hc
  iintro ⟨Hcr, Ho⟩
  iapply Hk
  unfold credS
  isplitl [Hcr]; · iexact Hcr
  iexists W; iexact Ho

/-- The wait for transfer `t` to have left: its source comes back, and its semaphore is at zero for good. -/
theorem wp_waitS (t : Fin 12) (ts : List (Fin 12)) {sp sp' : Space} {s s' : Shape} {e e' : EltTy} {κ' : Kind}
    {a : Memref sig .tc sp' s' e'} {b : Memref sig κ' sp s e} {h1 : a.view.WordExact} {h2 : b.view.WordExact} (hN : b.view.dmaCredit = NN t)
    {α : Type} {Q : α → sProp 𝕄} {k : PUnit → Prog (TpuEff nD τ sig (Elt F) Λ₀ .tc) α} :
    iprop(ctx I K ∗ credS c t ∗ posS c t ∗ ow c (owedFrom c ts))
      ⊢ iprop(((sendPay I c t ∗ semVal (sendCell t c) 0 ∗ ow c (owedFrom c ts)) -∗ WP c (k ⟨⟩) Q)
          -∗ WP c (.op (.waitDma2 (sendSem t) a b h1 h2) k) Q) := by
  iintro ⟨#Hc, Hcr, Hp, Ho⟩ Hk
  unfold ow credS posS
  icases Ho with ⟨%W, Ho⟩
  rw [← hN]
  iapply (Rounds.wp_wait_rest_token 𝒱₀ ER (moeRd I) (c : Thread nD τ) none (κ := K (c, some (false, t)))
      (wpE_waitDma2_eq 𝒱₀ (c : Thread nD τ) none Set.univ) (Set.mem_univ _) () (O := owedFrom c ts) (W := W) (R := 0) (m := 0) (T := ∅)
      (by rw [Nat.zero_add, expect_send, hN])) $$ [Hcr Ho Hp]
  · isplitr; · iapply (ctx_inv I K (c, some (false, t))); iexact Hc
    isplitl [Hcr]; · iexact Hcr
    isplitl [Ho]; · iexact Ho
    isplitr
    · iapply (mayWait_from c (.dma (sendSem t)) ts (fun t' _ => by rw [lvs_send]; omega)); iapply (ctx_lev I K); iexact Hc
    iexact Hp
  iintro ⟨Ho, Hat, -, Hpay⟩
  ihave Hp := (Entails.of_eq (rest_send I t c)) $$ Hpay
  imod (Rounds.cell_close ER (moeRd I) (Set.mem_univ (K (c, some (false, t)))) (fun h => h) (R := 0 + 1) (duties_later I (sendCell t c))) $$ [Hat] with Hz
  · isplitr; · iapply (ctx_inv I K (c, some (false, t))); iexact Hc
    iexact Hat
  iapply Hk
  isplitl [Hp]; · iexact Hp
  isplitl [Hz]; · iexact Hz
  iexists _; iexact Ho

/-- The wait for transfer `t` to have come: its landing place, filled. -/
theorem wp_waitR (t : Fin 12) (ts : List (Fin 12)) (hts : ∀ t' ∈ ts, t.val / 2 < t'.val / 2) {sp sp' : Space} {s s' : Shape} {e e' : EltTy} {κ' : Kind}
    {a : Memref sig .tc sp' s' e'} {b : Memref sig κ' sp s e} {h1 : a.view.WordExact} {h2 : b.view.WordExact} (hN : b.view.dmaCredit = NN t)
    {α : Type} {Q : α → sProp 𝕄} {k : PUnit → Prog (TpuEff nD τ sig (Elt F) Λ₀ .tc) α} :
    iprop(ctx I K ∗ posR c t ∗ ow c (owedFrom c ts))
      ⊢ iprop(((recvPay I c t ∗ semVal (recvCell t c) 0 ∗ ow c (owedFrom c ts)) -∗ WP c (k ⟨⟩) Q)
          -∗ WP c (.op (.waitDma2 (recvSem t) a b h1 h2) k) Q) := by
  iintro ⟨#Hc, Hp, Ho⟩ Hk
  unfold ow posR
  icases Ho with ⟨%W, Ho⟩
  icases Hp with ⟨Hp, Hcr⟩
  rw [← hN]
  iapply (Rounds.wp_wait_rest_token 𝒱₀ ER (moeRd I) (c : Thread nD τ) none (κ := K (c, some (true, t)))
      (wpE_waitDma2_eq 𝒱₀ (c : Thread nD τ) none Set.univ) (Set.mem_univ _) () (O := owedFrom c ts) (W := W) (R := 0) (m := 0) (T := ∅)
      (by rw [Nat.zero_add, expect_recv, hN])) $$ [Hcr Ho Hp]
  · isplitr; · iapply (ctx_inv I K (c, some (true, t))); iexact Hc
    isplitl [Hcr]; · iexact Hcr
    isplitl [Ho]; · iexact Ho
    isplitr
    · iapply (mayWait_from c (.dma (recvSem t)) ts (fun t' h => by rw [lvs_recv]; exact Nat.add_lt_add_left (hts t' h) 2))
      iapply (ctx_lev I K); iexact Hc
    iexact Hp
  iintro ⟨Ho, Hat, -, Hpay⟩
  ihave Hp := (Entails.of_eq (rest_recv I t c)) $$ Hpay
  imod (Rounds.cell_close ER (moeRd I) (Set.mem_univ (K (c, some (true, t)))) (fun h => h) (R := 0 + 1) (duties_later I (recvCell t c))) $$ [Hat] with Hz
  · isplitr; · iapply (ctx_inv I K (c, some (true, t))); iexact Hc
    iexact Hat
  iapply Hk
  isplitl [Hp]; · iexact Hp
  isplitl [Hz]; · iexact Hz
  iexists _; iexact Ho

/-! ## The barrier -/

theorem barPay_par0 : barPay (F := F) (par 0 c) 0 = iprop(landing c 2 ∗ landing c 5 ∗ landing c 7 ∗ landing c 8) := by
  unfold barPay; simp only [par_par]
theorem barPay_par1 : barPay (F := F) (par 1 c) 1 = iprop(landing c 0 ∗ landing c 3 ∗ landing c 9 ∗ landing c 10) := by
  unfold barPay; simp only [par_par]
theorem barPay_par2 : barPay (F := F) (par 2 c) 2 = iprop(landing c 1 ∗ landing c 4 ∗ landing c 6 ∗ landing c 11) := by
  unfold barPay; simp only [par_par]

/-! ## Loads and stores -/

section Mem
variable {α : Type} {cs : CoreSpace} {s : Shape} {e : EltTy} {m : Memref sig .tc cs s e}

/-- A load whose value is known. -/
theorem ld {Q : α → sProp 𝕄} {r : LoadRect s} {hl : m.view.LoadsAt r} {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : m.view.setOn r.set ⊆ S) (v : r.shape.Idx → Elt F e) (hv : m.view.readAt (Elt F) r f = v) :
    (m.view.loc (c : Thread nD τ) ↦[S]{q} f)
      ⊢ iprop(((m.view.loc (c : Thread nD τ) ↦[S]{q} f) -∗ WP c (k v) Q) -∗ WP c (.op (.load m r hl) k) Q) := by
  subst hv; exact wp_load 𝒱₀ (c : Thread nD τ) none Set.univ hS

/-- A store whose outcome is known, … -/
theorem st' {Q : α → sProp 𝕄} {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {S : Finset (Idx ((m.access r).loc (c : Thread nD τ)))} {f f' : Buf (Elt F) ((m.access r).loc (c : Thread nD τ))}
    (hS : (m.access r).set ⊆ S) (hf : ∀ i ∈ S, (m.access r).write (Elt F) f w Finset.univ i = f' i) :
    ((m.access r).loc (c : Thread nD τ) ↦[S]{fullShare} f)
      ⊢ iprop((((m.access r).loc (c : Thread nD τ) ↦[S]{fullShare} f') -∗ WP c (k ⟨⟩) Q) -∗ WP c (.op (.store m r w Finset.univ hx hm) k) Q) := by
  rw [← pointsTo_congr hf]
  exact wp_store 𝒱₀ (c : Thread nD τ) none Set.univ hS
/-- … on the buffer's own name. -/
theorem st {Q : α → sProp 𝕄} {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {S : Finset (Idx (m.view.loc (c : Thread nD τ)))} {f : Buf (Elt F) (m.view.loc (c : Thread nD τ))}
    (f' : Buf (Elt F) (m.view.loc (c : Thread nD τ)))
    (h : (m.access r).set ⊆ S ∧ ∀ i ∈ S, (m.access r).write (Elt F) f w Finset.univ i = f' i) :
    (m.view.loc (c : Thread nD τ) ↦[S]{fullShare} f)
      ⊢ iprop(((m.view.loc (c : Thread nD τ) ↦[S]{fullShare} f') -∗ WP c (k ⟨⟩) Q) -∗ WP c (.op (.store m r w Finset.univ hx hm) k) Q) :=
  st' c (m := m) (r := r) h.1 h.2

/-- A store into a buffer held whole. -/
theorem stW {Q : α → sProp 𝕄} {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {f : Buf (Elt F) (m.view.loc (c : Thread nD τ))} :
    (m.view.loc (c : Thread nD τ) ↦{fullShare} f)
      ⊢ iprop(((m.view.loc (c : Thread nD τ) ↦{fullShare} ((m.access r).write (Elt F) f w Finset.univ)) -∗ WP c (k ⟨⟩) Q)
        -∗ WP c (.op (.store m r w Finset.univ hx hm) k) Q) :=
  wp_store 𝒱₀ (c : Thread nD τ) none Set.univ (m := m) (r := r) (Finset.subset_univ _)

/-- The end of a program. -/
theorem wret {Q : α → sProp 𝕄} {v : α} : Q v ⊢ WP c (.ret v) Q := by
  unfold WP; rw [wp_ret]; iintro H; imodintro; iexact H

end Mem

/-! ## Places -/

section Places
variable {β : Type}

/-- Rows read out of a buffer of 1024 rows. -/
theorem cut_emb {off : Fin 2 → ℕ} (n : ℕ) {lo : ℕ} (ho : off = ![lo, 0])
    (inb : ∀ a, off a + (![n, 512] : Fin 2 → ℕ) a ≤ S1024x512.size a) (f : S1024x512.Idx → β) :
    (fun j => f ((Rect.unit (s := S1024x512) off ![n, 512] inb).emb j)) = cut n lo f := by
  funext j
  exact read_rows ho rfl inb f j j rfl rfl

/-- What a store of rows leaves on them. -/
theorem put_of_emb {off : Fin 2 → ℕ} (n : ℕ) {lo : ℕ} (hn : 0 < n) (ho : off = ![lo, 0])
    (inb : ∀ a, off a + (![n, 512] : Fin 2 → ℕ) a ≤ S1024x512.size a) (g : S1024x512.Idx → β) (w : (⟨2, ![n, 512]⟩ : Shape).Idx → β)
    (h : ∀ j, g ((Rect.unit (s := S1024x512) off ![n, 512] inb).emb j) = w j) : ∀ i ∈ rows lo n, g i = put n lo hn w i := by
  intro i hi
  rw [← rect_rows ho rfl inb, ← Rect.map_emb_univ] at hi
  obtain ⟨j, -, rfl⟩ := Finset.mem_map.mp hi
  refine (h j).trans (put_apply j ?_ ?_).symm
  all_goals (subst ho; rw [Rect.emb_apply]; show _ + 1 * _ = _; simp)

/-- Rows of a coefficient. -/
theorem ccut_emb {off : Fin 2 → ℕ} {lo : ℕ} (j : Fin 4) (ho : off = ![lo, j.val])
    (inb : ∀ a, off a + S512x1.size a ≤ S1024x4.size a) :
    (fun i => coefs I c ((Rect.unit (s := S1024x4) off S512x1.size inb).emb i)) = ccut I c lo j := by
  subst ho
  funext i
  unfold ccut
  congr 1
  have hb : lo + 512 ≤ 1024 := inb 0
  have h0 : (i 0).val < 512 := (i 0).isLt
  have h1 : (i 1).val < 1 := (i 1).isLt
  refine ix2_ext ?_ ?_
  · rw [Rect.emb_apply]
    show lo + 1 * (i 0).val = (lo + (i 0).val) % 1024
    rw [Nat.mod_eq_of_lt (by omega)]; omega
  · rw [Rect.emb_apply]
    show j.val + 1 * (i 1).val = j.val
    omega

/-- A quarter of an expert. -/
theorem ecut_emb {off : Fin 3 → ℕ} {o : ℕ} (j : Fin 4) (ho : off = ![j.val, 0, o])
    (inb : ∀ a, off a + S1x512x512.size a ≤ S4x512x1024.size a) :
    (fun i => I.ew c ((Rect.unit (s := S4x512x1024) off S1x512x512.size inb).emb i)) = ecut I c j o := by
  subst ho
  funext i
  unfold ecut
  congr 1
  have hb : o + 512 ≤ 1024 := inb 2
  have h0 : (i 0).val < 1 := (i 0).isLt
  have h2 : (i 2).val < 512 := (i 2).isLt
  funext a
  refine Fin.ext ?_
  rw [Rect.emb_apply]
  fin_cases a
  · show j.val + 1 * (i 0).val = j.val
    omega
  · show 0 + 1 * (i 1).val = (i 1).val
    omega
  · show o + 1 * (i 2).val = (o + (i 2).val) % 1024
    rw [Nat.mod_eq_of_lt (by omega)]; omega

omit [FloatOps F] in
/-- A load of a rectangle of a whole buffer reads the rectangle. -/
theorem setOn_rect (b : Ref sig .tc) (r : Rect b.ty.shape) : (Memref.whole b : Memref sig .tc _ _ _).view.setOn r.toLoadRect.set = r.set := by
  exact Finset.map_refl

/-- A load of rows of a buffer of 1024 rows. -/
theorem ldr {α : Type} {Q : α → sProp 𝕄} {cs : CoreSpace} (m : Memref sig .tc cs S1024x512 .bf16) {off : Fin 2 → ℕ} (n : ℕ) {lo : ℕ} (ho : off = ![lo, 0])
    {inb : ∀ a, off a + (![n, 512] : Fin 2 → ℕ) a ≤ S1024x512.size a} {hl : m.view.LoadsAt (Rect.unit (s := S1024x512) off ![n, 512] inb).toLoadRect}
    {k : ((⟨2, ![n, 512]⟩ : Shape).Idx → Elt F .bf16) → Prog (TpuEff nD τ sig (Elt F) Λ₀ .tc) α}
    {S : Finset (Idx (m.view.loc (c : Thread nD τ)))} {q : PosShare TreeShare} {f : Buf (Elt F) (m.view.loc (c : Thread nD τ))}
    (hS : m.view.setOn (Rect.unit (s := S1024x512) off ![n, 512] inb).toLoadRect.set ⊆ S)
    (g : S1024x512.Idx → Elt F .bf16) (hg : m.view.read (Elt F) f = g) :
    (m.view.loc (c : Thread nD τ) ↦[S]{q} f)
      ⊢ iprop(((m.view.loc (c : Thread nD τ) ↦[S]{q} f) -∗ WP c (k (cut n lo g)) Q)
        -∗ WP c (.op (.load m (Rect.unit (s := S1024x512) off ![n, 512] inb).toLoadRect hl) k) Q) :=
  ld c hS (cut n lo g) (by subst hg; exact cut_emb n ho inb (m.view.read (Elt F) f))

/-- A load of rows of a coefficient. -/
theorem ldc {α : Type} {Q : α → sProp 𝕄} {cs : CoreSpace} (m : Memref sig .tc cs S1024x4 .f32) {off : Fin 2 → ℕ} {lo : ℕ} (j : Fin 4) (ho : off = ![lo, j.val])
    {inb : ∀ a, off a + S512x1.size a ≤ S1024x4.size a} {hl : m.view.LoadsAt (Rect.unit (s := S1024x4) off S512x1.size inb).toLoadRect}
    {k : ((Rect.unit (s := S1024x4) off S512x1.size inb).toLoadRect.shape.Idx → Elt F .f32) → Prog (TpuEff nD τ sig (Elt F) Λ₀ .tc) α}
    {f : Buf (Elt F) (m.view.loc (c : Thread nD τ))} (hg : m.view.read (Elt F) f = coefs I c) :
    (m.view.loc (c : Thread nD τ) ↦{fullShare} f)
      ⊢ iprop(((m.view.loc (c : Thread nD τ) ↦{fullShare} f) -∗ WP c (k (ccut I c lo j)) Q)
        -∗ WP c (.op (.load m (Rect.unit (s := S1024x4) off S512x1.size inb).toLoadRect hl) k) Q) := by
  have h : m.view.readAt (Elt F) (Rect.unit (s := S1024x4) off S512x1.size inb).toLoadRect f = ccut I c lo j := by
    rw [← ccut_emb I c j ho inb, ← hg]; rfl
  exact ld c (Finset.subset_univ _) _ h

/-- A load of a quarter of an expert. -/
theorem lde {α : Type} {Q : α → sProp 𝕄} {cs : CoreSpace} (m : Memref sig .tc cs S4x512x1024 .bf16) {off : Fin 3 → ℕ} {o : ℕ} (j : Fin 4) (ho : off = ![j.val, 0, o])
    {inb : ∀ a, off a + S1x512x512.size a ≤ S4x512x1024.size a} {hl : m.view.LoadsAt (Rect.unit (s := S4x512x1024) off S1x512x512.size inb).toLoadRect}
    {k : ((Rect.unit (s := S4x512x1024) off S1x512x512.size inb).toLoadRect.shape.Idx → Elt F .bf16) → Prog (TpuEff nD τ sig (Elt F) Λ₀ .tc) α}
    {f : Buf (Elt F) (m.view.loc (c : Thread nD τ))} (hg : m.view.read (Elt F) f = I.ew c) :
    (m.view.loc (c : Thread nD τ) ↦{fullShare} f)
      ⊢ iprop(((m.view.loc (c : Thread nD τ) ↦{fullShare} f) -∗ WP c (k (ecut I c j o)) Q)
        -∗ WP c (.op (.load m (Rect.unit (s := S4x512x1024) off S1x512x512.size inb).toLoadRect hl) k) Q) := by
  have h : m.view.readAt (Elt F) (Rect.unit (s := S4x512x1024) off S1x512x512.size inb).toLoadRect f = ecut I c j o := by
    rw [← ecut_emb I c j ho inb, ← hg]; rfl
  exact ld c (Finset.subset_univ _) _ h

/-- A store of rows through a buffer held on those rows. -/
theorem str {Q : α → sProp 𝕄} {cs : CoreSpace} {s : Shape} {e : EltTy} (m : Memref sig .tc cs s e) {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {f : Buf (Elt F) (m.view.loc (c : Thread nD τ))}
    (S : Finset (Idx (m.view.loc (c : Thread nD τ)))) (g : Buf (Elt F) (m.view.loc (c : Thread nD τ)))
    (hS : (m.access r).set = S) (hg : ∀ v : Buf (Elt F) (m.view.loc (c : Thread nD τ)), (∀ j, m.view.read (Elt F) v (r.emb j) = w j) → ∀ i ∈ S, v i = g i) :
    (m.view.loc (c : Thread nD τ) ↦[S]{fullShare} f)
      ⊢ iprop(((m.view.loc (c : Thread nD τ) ↦[S]{fullShare} g) -∗ WP c (k ⟨⟩) Q)
        -∗ WP c (.op (.store m r w Finset.univ hx hm) k) Q) := by
  have h : ((m.access r).loc (c : Thread nD τ) ↦[S]{fullShare} f)
      ⊢ iprop((((m.access r).loc (c : Thread nD τ) ↦[S]{fullShare} ((m.access r).write (Elt F) f w Finset.univ)) -∗ WP c (k ⟨⟩) Q)
        -∗ WP c (.op (.store m r w Finset.univ hx hm) k) Q) :=
    wp_store 𝒱₀ (c : Thread nD τ) none Set.univ hS.le
  have e : ∀ i ∈ S, (m.access r).write (Elt F) f w Finset.univ i = g i :=
    hg _ fun j => congrFun (View.read_write_univ (v := m.access r) f w) j
  rw [pointsTo_congr e] at h
  exact h

end Places

end Cert.Moe

end
-- ==== Proof.BodyA.lean ====
/-
# 01_k: the body, up to the first transfers

The barrier, the routing coefficients, the partial products of stage `0`.
-/
module

public import proofs.«01_k».proof.Proof.Steps

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Bool × Fin 12) → ℕ) (c : Dev nD)

theorem hz2 : (![0, 0] : Fin 2 → Nat) = fun _ => 0 := funext fun a => by fin_cases a <;> rfl

/-- What the barrier needs. -/
def barG : sProp 𝕄 :=
  iprop(atPos ER (barCell c) 0 ∅ 0 ∗ cred (tallyAt (barCell c) () 3)
    ∗ dutyTok ER (barCell (par 0 c)) 0 0 ∗ dutyTok ER (barCell (par 1 c)) 0 1 ∗ dutyTok ER (barCell (par 2 c)) 0 2)

/-- The twelve landing places of a device, by the partner they go to. -/
def lands : sProp 𝕄 :=
  iprop((landing c 2 ∗ landing c 5 ∗ landing c 7 ∗ landing c 8) ∗ (landing c 0 ∗ landing c 3 ∗ landing c 9 ∗ landing c 10)
    ∗ (landing c 1 ∗ landing c 4 ∗ landing c 6 ∗ landing c 11))

theorem part1 {Q} :
    iprop(ctx I K ∗ ow c (O₀ c) ∗ barG c ∗ lands c ∗ has c cc0_stg0_0 (I.x c) ∗ has c cc0_stg1_0 (I.rw c) ∗ has c cc0_stg2_0 (I.ix c)
        ∗ ((ow c (owedFrom c allT) ∗ semVal (barCell c) 0 ∗ barPay c 0 ∗ barPay c 1 ∗ barPay c 2
            ∗ has c cc0_stg0_0 (I.x c) ∗ has c cc0_stg1_0 (I.rw c) ∗ has c cc0_stg2_0 (I.ix c))
          -∗ Q ⟨c, word c, probs I c, k0_pay3 (F := F) (I.ix c), lanes⟩))
      ⊢ WP c (onBufs k0_part1) Q := by
  simp only [onBufs, k0_part1_eq_skeleton]; unfold k0_part1_skel
  simp only [semSignalWord, semWaitWord, Prog.lift, Prog.bind_op, Prog.bind_ret, Prog.pure_eq_ret, wp_deviceId]
  simp only [dev1_eq c, dev2_eq c, dev3_eq c]
  unfold ow barG lands
  iintro ⟨#Hc, ⟨%W, Ho⟩, ⟨Hat, Hcr, Ht0, Ht1, Ht2⟩, ⟨Hl0, Hl1, Hl2⟩, Hx, Hr, Hi, Hk⟩
  unfold O₀
  iapply (Rounds.wp_signal 𝒱₀ ER (moeRd I) (c : Thread nD τ) none (dst := (par 0 c : Thread nD τ)) (κ := K (par 0 c, none))
      (d := 0) (by rw [duties_bar]; exact Finset.mem_univ _) ((amount_bar I (par 0 c) 0).trans (by decide)) ()
      ((owedFrom c allT + tallyAt (barCell (par 2 c)) () 1) + tallyAt (barCell (par 1 c)) () 1) rfl) $$ [Ho Ht0 Hl0]
  · isplitr; · iapply (ctx_inv I K (par 0 c, none)); iexact Hc
    isplitl [Ho]; · iexact Ho
    isplitl [Ht0]; · iexact Ht0
    isplitl [Hl0]; · rw [payload_bar, barPay_par0]; iexact Hl0
    iapply (ctx_reached I K (par 0 c, none)); iexact Hc
  iintro Ho
  iapply (Rounds.wp_signal 𝒱₀ ER (moeRd I) (c : Thread nD τ) none (dst := (par 1 c : Thread nD τ)) (κ := K (par 1 c, none))
      (d := 1) (by rw [duties_bar]; exact Finset.mem_univ _) ((amount_bar I (par 1 c) 1).trans (by decide)) ()
      (owedFrom c allT + tallyAt (barCell (par 2 c)) () 1) rfl) $$ [Ho Ht1 Hl1]
  · isplitr; · iapply (ctx_inv I K (par 1 c, none)); iexact Hc
    isplitl [Ho]; · iexact Ho
    isplitl [Ht1]; · iexact Ht1
    isplitl [Hl1]; · rw [payload_bar, barPay_par1]; iexact Hl1
    iapply (ctx_reached I K (par 1 c, none)); iexact Hc
  iintro Ho
  iapply (Rounds.wp_signal 𝒱₀ ER (moeRd I) (c : Thread nD τ) none (dst := (par 2 c : Thread nD τ)) (κ := K (par 2 c, none))
      (d := 2) (by rw [duties_bar]; exact Finset.mem_univ _) ((amount_bar I (par 2 c) 2).trans (by decide)) ()
      (owedFrom c allT) rfl) $$ [Ho Ht2 Hl2]
  · isplitr; · iapply (ctx_inv I K (par 2 c, none)); iexact Hc
    isplitl [Ho]; · iexact Ho
    isplitl [Ht2]; · iexact Ht2
    isplitl [Hl2]; · rw [payload_bar, barPay_par2]; iexact Hl2
    iapply (ctx_reached I K (par 2 c, none)); iexact Hc
  iintro Ho
  iapply (Rounds.wp_wait_rest_token 𝒱₀ ER (moeRd I) (c : Thread nD τ) none (κ := K (c, none))
      (wpE_semWait_eq 𝒱₀ (c : Thread nD τ) none Set.univ) (Set.mem_univ _) () (O := owedFrom c allT) (W := W) (R := 0) (m := 0) (T := ∅)
      (by rw [expect_bar]; decide)) $$ [Hcr Ho Hat]
  · isplitr; · iapply (ctx_inv I K (c, none)); iexact Hc
    isplitl [Hcr]; · iexact Hcr
    isplitl [Ho]; · iexact Ho
    isplitr
    · iapply (mayWait_from c (.reg barS) allT (fun t' _ => by rw [lvs_bar]; omega)); iapply (ctx_lev I K); iexact Hc
    iexact Hat
  iintro ⟨Ho, Hat, -, Hpay⟩
  ihave Hp := (Entails.of_eq (rest_bar I c)) $$ Hpay
  icases Hp with ⟨Hb0, Hb1, Hb2⟩
  imod (Rounds.cell_close ER (moeRd I) (Set.mem_univ (K (c, none))) (fun h => h) (R := 0 + 1) (duties_later I (barCell c))) $$ [Hat] with Hz
  · isplitr; · iapply (ctx_inv I K (c, none)); iexact Hc
    iexact Hat
  iapply (ld c (m := Memref.whole cc0_stg0_0) (Finset.subset_univ _) (I.x c) (Memref.readAt_unit_zero (Elt F) cc0_stg0_0 hz2 _ _)) $$ Hx; iintro Hx
  iapply (ld c (m := Memref.whole cc0_stg1_0) (Finset.subset_univ _) (I.rw c) (Memref.readAt_unit_zero (Elt F) cc0_stg1_0 hz2 _ _)) $$ Hr; iintro Hr
  iapply (ld c (m := Memref.whole cc0_stg2_0) (Finset.subset_univ _) (I.ix c) (Memref.readAt_unit_zero (Elt F) cc0_stg2_0 hz2 _ _)) $$ Hi; iintro Hi
  iapply (wret c)
  iapply Hk
  isplitl [Ho]; · iexists _; iexact Ho
  isplitl [Hz]; · iexact Hz
  isplitl [Hb0]; · iexact Hb0
  isplitl [Hb1]; · iexact Hb1
  isplitl [Hb2]; · iexact Hb2
  isplitl [Hx]; · iexact Hx
  isplitl [Hr]; · iexact Hr
  iexact Hi

/-! ## The coefficients, column by column -/

/-- The first `k` columns hold the coefficients. -/
def colsDone (k : ℕ) (f : FVec F S1024x4 .f32) : Prop := ∀ i, (i 1).val < k → f i = coefs I c i

theorem cols_step {k : ℕ} (hk : k < 4) {off : Fin 2 → ℕ} (ho : off = ![0, k]) (inb : ∀ a, off a + S1024x1.size a ≤ S1024x4.size a)
    {f g : FVec F S1024x4 .f32} {w : FVec F S1024x1 .f32} (hf : colsDone I c k f)
    (hw : w = (![coef0 I c, coef1 I c, coef2 I c, coef3 I c] ⟨k, hk⟩))
    (h1 : ∀ j, g ((Rect.unit (s := S1024x4) off S1024x1.size inb).emb j) = w j)
    (h2 : ∀ i, i ∉ (Rect.unit (s := S1024x4) off S1024x1.size inb).set → g i = f i) : colsDone I c (k + 1) g := by
  intro i hi
  subst ho
  by_cases hk' : (i 1).val = k
  · have e : (Rect.unit (s := S1024x4) ![0, k] S1024x1.size inb).emb (ix2 (n0 := 1024) (n1 := 1) (i 0) 0) = i := by
      refine ix2_ext ?_ ?_
      · rw [Rect.emb_apply]; show 0 + 1 * (i 0).val = (i 0).val; omega
      · rw [Rect.emb_apply]; show k + 1 * 0 = (i 1).val; omega
    rw [← e, h1, hw, e]
    unfold coefs
    have : i 1 = (⟨k, hk⟩ : Fin 4) := Fin.ext hk'
    rw [this]
  · rw [h2 i, hf i (by omega)]
    intro hm
    rw [← Rect.map_emb_univ] at hm
    obtain ⟨j, -, e⟩ := Finset.mem_map.mp hm
    have h : ((Rect.unit (s := S1024x4) ![0, k] S1024x1.size inb).emb j 1 : ℕ) = (i 1).val := by rw [e]
    rw [Rect.emb_apply] at h
    have hj : (j 1).val < 1 := (j 1).isLt
    have h' : k + 1 * (j 1).val = (i 1).val := h
    omega

theorem cols_write {k : ℕ} (hk : k < 4) {off : Fin 2 → ℕ} (ho : off = ![0, k]) (inb : ∀ a, off a + S1024x1.size a ≤ S1024x4.size a)
    {f : FVec F S1024x4 .f32} {w : FVec F S1024x1 .f32} (hf : colsDone I c k f) (hw : w = (![coef0 I c, coef1 I c, coef2 I c, coef3 I c] ⟨k, hk⟩)) :
    colsDone I c (k + 1) (((Memref.whole cc0_scratch12 : Memref sig .tc .vmem S1024x4 .f32).access (Rect.unit (s := S1024x4) off S1024x1.size inb)).write (Elt F) f w Finset.univ) :=
  cols_step I c hk ho inb hf hw (fun j => View.write_emb_of_mem _ _ (Finset.mem_univ j))
    (fun i hi => View.write_of_not_mem _ _ _ (by rw [View.setOn_univ, View.set_slice_whole]; exact hi))

theorem part2 {Q} :
    iprop((∃ f, has c cc0_scratch12 f)
        ∗ ((∃ f, ⌜colsDone I c 2 f⌝ ∗ has c cc0_scratch12 f)
          -∗ Q ⟨k0_pay6 (word c) (probs I c) lanes, k0_pay7 (word c) (k0_pay3 (F := F) (I.ix c))⟩))
      ⊢ WP c (onBufs k0_part2 (word c) (probs I c) (k0_pay3 (F := F) (I.ix c)) lanes) Q := by
  simp only [onBufs, k0_part2_eq_skeleton]; unfold k0_part2_skel
  simp only [Prog.lift, Prog.bind_op, Prog.bind_ret, Prog.pure_eq_ret]
  iintro ⟨⟨%f, Hf⟩, Hk⟩
  iapply (wp_load 𝒱₀ (c : Thread nD τ) none Set.univ (m := Memref.whole cc0_scratch12) (Finset.subset_univ _)) $$ Hf; iintro Hf
  iapply (stW c (m := Memref.whole cc0_scratch12)) $$ Hf; iintro Hf
  iapply (wp_load 𝒱₀ (c : Thread nD τ) none Set.univ (m := Memref.whole cc0_scratch12) (Finset.subset_univ _)) $$ Hf; iintro Hf
  iapply (stW c (m := Memref.whole cc0_scratch12)) $$ Hf; iintro Hf
  iapply (wret c)
  iapply Hk
  iexists _
  isplitr
  swap
  · iexact Hf
  ipureintro
  exact cols_write I c (k := 1) (by decide) rfl inb_S1024x4_S1024x1_0_1
    (cols_write I c (k := 0) (by decide) rfl inb_S1024x4_S1024x1_0_0 (f := f) (fun i hi => absurd hi (Nat.not_lt_zero _)) rfl) rfl

theorem cols_full {g : FVec F S1024x4 .f32} (hg : colsDone I c 4 g) : has c cc0_scratch12 g ⊢ has c cc0_scratch12 (coefs I c) := by
  rw [show g = coefs I c from funext fun i => hg i (i 1).isLt]

theorem part3 {Q} :
    iprop((∃ f, ⌜colsDone I c 2 f⌝ ∗ has c cc0_scratch12 f)
        ∗ (∀ a b d e, has c cc0_scratch12 (coefs I c) -∗ Q ⟨a, b, d, e⟩))
      ⊢ WP c (onBufs k0_part3 (word c) (probs I c) (k0_pay3 (F := F) (I.ix c)) lanes (k0_pay6 (word c) (probs I c) lanes) (k0_pay7 (word c) (k0_pay3 (F := F) (I.ix c)))) Q := by
  simp only [onBufs, k0_part3_eq_skeleton]; unfold k0_part3_skel
  simp only [Prog.lift, Prog.bind_op, Prog.bind_ret, Prog.pure_eq_ret]
  iintro ⟨⟨%f, %hf, Hf⟩, Hk⟩
  iapply (wp_load 𝒱₀ (c : Thread nD τ) none Set.univ (m := Memref.whole cc0_scratch12) (Finset.subset_univ _)) $$ Hf; iintro Hf
  iapply (stW c (m := Memref.whole cc0_scratch12)) $$ Hf; iintro Hf
  iapply (wp_load 𝒱₀ (c : Thread nD τ) none Set.univ (m := Memref.whole cc0_scratch12) (Finset.subset_univ _)) $$ Hf; iintro Hf
  iapply (stW c (m := Memref.whole cc0_scratch12)) $$ Hf; iintro Hf
  ihave Hf := (cols_full I c (cols_write I c (k := 3) (w := k0_pay9 (word c) (probs I c) (k0_pay3 (F := F) (I.ix c)) lanes) (by decide) rfl inb_S1024x4_S1024x1_0_3
      (cols_write I c (k := 2) (w := k0_pay8 (k0_pay6 (word c) (probs I c) lanes) (k0_pay7 (word c) (k0_pay3 (F := F) (I.ix c)))) (by decide) rfl inb_S1024x4_S1024x1_0_2 hf rfl) rfl)) $$ Hf
  iapply (wret c)
  iapply Hk
  iexact Hf

end Cert.Moe

end
-- ==== Proof.BodyB.lean ====
/-
# 01_k: the body, the partial products

The partial products of stage `0` and the two transfers that pass half of them on.
-/
module

public import proofs.«01_k».proof.Proof.BodyA

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Bool × Fin 12) → ℕ) (c : Dev nD)

/-- What the products read. -/
def prodIns : sProp 𝕄 := iprop(has c cc0_stg0_0 (I.x c) ∗ has c cc0_scratch12 (coefs I c) ∗ has c cc0_stg3_0 (I.ew c))

theorem part4 {Q} (a b d : BitVec 32) :
    iprop(prodIns I c ∗ (∀ v₀ v₁ v₂ v₃ v₄, prodIns I c
          -∗ Q ⟨v₀, v₁, v₂, v₃, v₄, k0_pay10 (xcut I c (sLo 0 0 c)), k0_pay11 (xcut I c (sLo 0 0 c)) (ccut I c (sLo 0 0 c) 0)⟩))
      ⊢ WP c (onBufs k0_part4 c (word c) a b d) Q := by
  simp only [onBufs, k0_part4_eq_skeleton]; unfold k0_part4_skel
  simp only [Prog.lift, Prog.bind_op, Prog.bind_ret, Prog.pure_eq_ret]
  unfold prodIns
  iintro ⟨⟨Hx, Hc, He⟩, Hk⟩
  iapply (ldr c (.whole cc0_stg0_0) 512 (off1A c) (Finset.subset_univ _) (I.x c) rfl) $$ Hx; iintro Hx
  iapply (ldc I c (.whole cc0_scratch12) 0 (off2A c) rfl) $$ Hc; iintro Hc
  iapply (wret c)
  iapply Hk
  isplitl [Hx]; · iexact Hx
  isplitl [Hc]; · iexact Hc
  iexact He

theorem part5 {Q} (a b : BitVec 32) :
    iprop(prodIns I c ∗ (∃ f, has c cc0_scratch4 f) ∗ ((prodIns I c ∗ has c cc0_scratch4 (sendA I c)) -∗ Q ⟨⟩))
      ⊢ WP c (onBufs k0_part5 c a b (k0_pay10 (xcut I c (sLo 0 0 c))) (k0_pay11 (xcut I c (sLo 0 0 c)) (ccut I c (sLo 0 0 c) 0))) Q := by
  simp only [onBufs, k0_part5_eq_skeleton]; unfold k0_part5_skel
  simp only [Prog.lift, Prog.bind_op, Prog.bind_ret, Prog.pure_eq_ret]
  unfold prodIns sendA
  iintro ⟨⟨Hx, Hc, He⟩, ⟨%f, Hs⟩, Hk⟩
  iapply (lde I c (.whole cc0_stg3_0) 0 rfl rfl) $$ He; iintro He
  iapply (ldc I c (.whole cc0_scratch12) 1 (off3A c) rfl) $$ Hc; iintro Hc
  iapply (lde I c (.whole cc0_stg3_0) 1 rfl rfl) $$ He; iintro He
  iapply (ldc I c (.whole cc0_scratch12) 2 (off4A c) rfl) $$ Hc; iintro Hc
  iapply (lde I c (.whole cc0_stg3_0) 2 rfl rfl) $$ He; iintro He
  iapply (ldc I c (.whole cc0_scratch12) 3 (off5A c) rfl) $$ Hc; iintro Hc
  iapply (lde I c (.whole cc0_stg3_0) 3 rfl rfl) $$ He; iintro He
  iapply (wp_load 𝒱₀ (c : Thread nD τ) none Set.univ (m := Memref.whole cc0_scratch4) (Finset.subset_univ _)) $$ Hs; iintro Hs
  iapply (stW c (m := Memref.whole cc0_scratch4)) $$ Hs; iintro Hs
  ihave Hs := (Entails.of_eq (congrArg (has c cc0_scratch4) (Memref.write_access_unit_zero_univ (Elt F) cc0_scratch4 hz2 _ _ _))) $$ Hs
  iapply (wret c)
  iapply Hk
  isplitl [Hx Hc He]
  · isplitl [Hx]; · iexact Hx
    isplitl [Hc]; · iexact Hc
    iexact He
  iexact Hs

theorem part6 {Q} (a : BitVec 32) :
    iprop(prodIns I c ∗ (prodIns I c
        -∗ Q ⟨k0_pay14 (xcut I c (sLo 1 0 c)) (ccut I c (sLo 1 0 c) 0) (ecut I c 0 512) (ccut I c (sLo 1 0 c) 1) (ecut I c 1 512)
            (ccut I c (sLo 1 0 c) 2) (ecut I c 2 512),
          k0_pay15 (xcut I c (sLo 1 0 c)) (ccut I c (sLo 1 0 c) 3) (ecut I c 3 512)⟩))
      ⊢ WP c (onBufs k0_part6 c a) Q := by
  simp only [onBufs, k0_part6_eq_skeleton]; unfold k0_part6_skel
  simp only [Prog.lift, Prog.bind_op, Prog.bind_ret, Prog.pure_eq_ret]
  unfold prodIns
  iintro ⟨⟨Hx, Hc, He⟩, Hk⟩
  iapply (ldr c (.whole cc0_stg0_0) 512 (off1B c) (Finset.subset_univ _) (I.x c) rfl) $$ Hx; iintro Hx
  iapply (ldc I c (.whole cc0_scratch12) 0 (off2B c) rfl) $$ Hc; iintro Hc
  iapply (lde I c (.whole cc0_stg3_0) 0 rfl rfl) $$ He; iintro He
  iapply (ldc I c (.whole cc0_scratch12) 1 (off3B c) rfl) $$ Hc; iintro Hc
  iapply (lde I c (.whole cc0_stg3_0) 1 rfl rfl) $$ He; iintro He
  iapply (ldc I c (.whole cc0_scratch12) 2 (off4B c) rfl) $$ Hc; iintro Hc
  iapply (lde I c (.whole cc0_stg3_0) 2 rfl rfl) $$ He; iintro He
  iapply (ldc I c (.whole cc0_scratch12) 3 (off5B c) rfl) $$ Hc; iintro Hc
  iapply (lde I c (.whole cc0_stg3_0) 3 rfl rfl) $$ He; iintro He
  iapply (wret c)
  iapply Hk
  isplitl [Hx]; · iexact Hx
  isplitl [Hc]; · iexact Hc
  iexact He

/-! ### The transfers of stage `0` -/

theorem paidS0 : has c cc0_scratch4 (sendA I c) ⊢ sendPay I c 0 := by unfold sendPay; iintro H; iexists _; iexact H
theorem paidS1 : has c cc0_scratch5 (sendB I c) ⊢ sendPay I c 1 := by unfold sendPay; iintro H; iexists _; iexact H
theorem paidR0 : has (tpeer 0 c) cc0_scratch6 (sendA I c) ⊢ recvPay I (tpeer 0 c) 0 := by
  unfold recvPay
  show _ ⊢ has (tpeer 0 c) cc0_scratch6 (sendA I (par 1 (par 1 c)))
  rw [par_par]
theorem paidR1 : has (tpeer 1 c) cc0_scratch9 (sendB I c) ⊢ recvPay I (tpeer 1 c) 1 := by
  unfold recvPay
  show _ ⊢ has (tpeer 1 c) cc0_scratch9 (sendB I (par 2 (par 2 c)))
  rw [par_par]

theorem part7 {Q} (a : BitVec 32) :
    iprop(ctx I K ∗ prodIns I c ∗ has c cc0_scratch4 (sendA I c) ∗ (∃ f, has c cc0_scratch5 f) ∗ landing (tpeer 0 c) 0 ∗ landing (tpeer 1 c) 1
        ∗ toks c 0 ∗ toks c 1 ∗ ow c (owedFrom c allT)
        ∗ (∀ v₀ v₁, (prodIns I c ∗ credS c 0 ∗ credS c 1 ∗ ow c (owedFrom c [2, 3, 4, 5, 6, 7, 8, 9, 10, 11]))
        -∗ Q ⟨v₀, v₁, k0_pay17 (xcut I c (kLo 0 0 c)), k0_pay18 (xcut I c (kLo 0 0 c)) (ccut I c (kLo 0 0 c) 0) (ecut I c 0 0),
            k0_pay19 (xcut I c (kLo 0 0 c)) (ccut I c (kLo 0 0 c) 1)⟩))
      ⊢ WP c (onBufs k0_part7 c (word c) a
          (k0_pay14 (xcut I c (sLo 1 0 c)) (ccut I c (sLo 1 0 c) 0) (ecut I c 0 512) (ccut I c (sLo 1 0 c) 1) (ecut I c 1 512)
            (ccut I c (sLo 1 0 c) 2) (ecut I c 2 512))
          (k0_pay15 (xcut I c (sLo 1 0 c)) (ccut I c (sLo 1 0 c) 3) (ecut I c 3 512))) Q := by
  simp only [onBufs, k0_part7_eq_skeleton]; unfold k0_part7_skel
  simp only [Prog.lift, Prog.bind_op, Prog.bind_ret, Prog.pure_eq_ret]
  unfold prodIns landing
  iintro ⟨#HC, ⟨Hx, Hc, He⟩, HsA, ⟨%f, HsB⟩, ⟨%f0, Hl0⟩, ⟨%f1, Hl1⟩, Ht0, Ht1, Ho, Hk⟩
  iapply (wp_load 𝒱₀ (c : Thread nD τ) none Set.univ (m := Memref.whole cc0_scratch5) (Finset.subset_univ _)) $$ HsB; iintro HsB
  iapply (stW c (m := Memref.whole cc0_scratch5)) $$ HsB; iintro HsB
  ihave HsB := (Entails.of_eq (congrArg (has c cc0_scratch5) (Memref.write_access_unit_zero_univ (Elt F) cc0_scratch5 hz2 _ _ _))) $$ HsB
  iapply (wp_xfer I K c 0 [1, 2, 3, 4, 5, 6, 7, 8, 9, 10, 11] (dev4_eq c) (src := .whole cc0_scratch4) (dst := .whole cc0_scratch6)
    (View.set_whole _) (View.set_whole _) rfl (fd := f0) (paidS0 I c) (by rw [View.write_whole_univ]; exact paidR0 I c)) $$ [HsA Hl0 Ho Ht0]
  · isplitr; · iexact HC
    isplitl [HsA]; · iexact HsA
    isplitl [Hl0]; · iexact Hl0
    isplitl [Ho]; · iexact Ho
    iexact Ht0
  iintro ⟨Hc0, Ho⟩
  iapply (wp_xfer I K c 1 [2, 3, 4, 5, 6, 7, 8, 9, 10, 11] (dev5_eq c) (src := .whole cc0_scratch5) (dst := .whole cc0_scratch9)
    (View.set_whole _) (View.set_whole _) rfl (fd := f1) (paidS1 I c) (by rw [View.write_whole_univ]; exact paidR1 I c)) $$ [HsB Hl1 Ho Ht1]
  · isplitr; · iexact HC
    isplitl [HsB]; · iexact HsB
    isplitl [Hl1]; · iexact Hl1
    isplitl [Ho]; · iexact Ho
    iexact Ht1
  iintro ⟨Hc1, Ho⟩
  iapply (ldr c (.whole cc0_stg0_0) 512 (off6A c) (Finset.subset_univ _) (I.x c) rfl) $$ Hx; iintro Hx
  iapply (ldc I c (.whole cc0_scratch12) 0 (off7A c) rfl) $$ Hc; iintro Hc
  iapply (lde I c (.whole cc0_stg3_0) 0 rfl rfl) $$ He; iintro He
  iapply (ldc I c (.whole cc0_scratch12) 1 (off8A c) rfl) $$ Hc; iintro Hc
  iapply (wret c)
  iapply Hk
  isplitl [Hx Hc He]
  · isplitl [Hx]; · iexact Hx
    isplitl [Hc]; · iexact Hc
    iexact He
  isplitl [Hc0]; · iexact Hc0
  isplitl [Hc1]; · iexact Hc1
  iexact Ho

/-! ### The products kept -/

/-- Device `c` holds the rows `[lo, lo+n)` of a buffer of 1024 rows of 512. -/
abbrev own0 (lo n : ℕ) (f : FVec F S1024x512 .bf16) : sProp 𝕄 := ((c : Thread nD τ).loc cc0_scratch0) ↦[rows lo n]{fullShare} f
abbrev own1 (lo n : ℕ) (f : FVec F S1024x512 .bf16) : sProp 𝕄 := ((c : Thread nD τ).loc cc0_scratch1) ↦[rows lo n]{fullShare} f

theorem part8 {Q} (a b : BitVec 32) :
    iprop(prodIns I c ∗ (∃ f, own0 c (kLo 0 0 c) 512 f) ∗ ((prodIns I c ∗ own0 c (kLo 0 0 c) 512 (acc0A I c))
        -∗ Q ⟨k0_pay21 (xcut I c (kLo 1 0 c)), k0_pay22 (xcut I c (kLo 1 0 c)) (ccut I c (kLo 1 0 c) 0), k0_pay23 (ecut I c 0 512)⟩))
      ⊢ WP c (onBufs k0_part8 c a b (k0_pay17 (xcut I c (kLo 0 0 c))) (k0_pay18 (xcut I c (kLo 0 0 c)) (ccut I c (kLo 0 0 c) 0) (ecut I c 0 0))
            (k0_pay19 (xcut I c (kLo 0 0 c)) (ccut I c (kLo 0 0 c) 1))) Q := by
  simp only [onBufs, k0_part8_eq_skeleton]; unfold k0_part8_skel
  simp only [Prog.lift, Prog.bind_op, Prog.bind_ret, Prog.pure_eq_ret]
  unfold prodIns
  iintro ⟨⟨Hx, Hc, He⟩, ⟨%f, Hp⟩, Hk⟩
  iapply (lde I c (.whole cc0_stg3_0) 1 rfl rfl) $$ He; iintro He
  iapply (ldc I c (.whole cc0_scratch12) 2 (off9A c) rfl) $$ Hc; iintro Hc
  iapply (lde I c (.whole cc0_stg3_0) 2 rfl rfl) $$ He; iintro He
  iapply (ldc I c (.whole cc0_scratch12) 3 (off10A c) rfl) $$ Hc; iintro Hc
  iapply (lde I c (.whole cc0_stg3_0) 3 rfl rfl) $$ He; iintro He
  iapply (ldr c (.whole cc0_scratch0) 512 (off6A c) (S := rows (kLo 0 0 c) 512) ((setOn_rect _ _).trans (rect_rows (off6A c) rfl _)).le f rfl) $$ Hp; iintro Hp
  iapply (str c (.whole cc0_scratch0) (rows (kLo 0 0 c) 512) (acc0A I c) ((View.set_slice_whole _ _).trans (rect_rows (off6A c) rfl _))
    (fun v h => put_of_emb 512 _ (off6A c) _ v _ h)) $$ Hp; iintro Hp
  iapply (ldr c (.whole cc0_stg0_0) 512 (off6B c) (Finset.subset_univ _) (I.x c) rfl) $$ Hx; iintro Hx
  iapply (ldc I c (.whole cc0_scratch12) 0 (off7B c) rfl) $$ Hc; iintro Hc
  iapply (lde I c (.whole cc0_stg3_0) 0 rfl rfl) $$ He; iintro He
  iapply (wret c)
  iapply Hk
  isplitl [Hx Hc He]
  · isplitl [Hx]; · iexact Hx
    isplitl [Hc]; · iexact Hc
    iexact He
  iexact Hp

theorem part9 {Q} (a : BitVec 32) :
    iprop(ctx I K ∗ prodIns I c ∗ (∃ f, own1 c (kLo 1 0 c) 512 f) ∗ credS c 0 ∗ posS c 0 ∗ ow c (owedFrom c [2, 3, 4, 5, 6, 7, 8, 9, 10, 11])
        ∗ ((prodIns I c ∗ own1 c (kLo 1 0 c) 512 (acc0B I c) ∗ sendPay I c 0 ∗ semVal (sendCell 0 c) 0
            ∗ ow c (owedFrom c [2, 3, 4, 5, 6, 7, 8, 9, 10, 11])) -∗ Q ⟨⟩))
      ⊢ WP c (onBufs k0_part9 c a (k0_pay21 (xcut I c (kLo 1 0 c))) (k0_pay22 (xcut I c (kLo 1 0 c)) (ccut I c (kLo 1 0 c) 0)) (k0_pay23 (ecut I c 0 512))) Q := by
  simp only [onBufs, k0_part9_eq_skeleton]; unfold k0_part9_skel
  simp only [Prog.lift, Prog.bind_op, Prog.bind_ret, Prog.pure_eq_ret]
  unfold prodIns
  iintro ⟨#HC, ⟨Hx, Hc, He⟩, ⟨%f, Hp⟩, Hcr, Hpos, Ho, Hk⟩
  iapply (ldc I c (.whole cc0_scratch12) 1 (off8B c) rfl) $$ Hc; iintro Hc
  iapply (lde I c (.whole cc0_stg3_0) 1 rfl rfl) $$ He; iintro He
  iapply (ldc I c (.whole cc0_scratch12) 2 (off9B c) rfl) $$ Hc; iintro Hc
  iapply (lde I c (.whole cc0_stg3_0) 2 rfl rfl) $$ He; iintro He
  iapply (ldc I c (.whole cc0_scratch12) 3 (off10B c) rfl) $$ Hc; iintro Hc
  iapply (lde I c (.whole cc0_stg3_0) 3 rfl rfl) $$ He; iintro He
  iapply (ldr c (.whole cc0_scratch1) 512 (off6B c) (S := rows (kLo 1 0 c) 512) ((setOn_rect _ _).trans (rect_rows (off6B c) rfl _)).le f rfl) $$ Hp; iintro Hp
  iapply (str c (.whole cc0_scratch1) (rows (kLo 1 0 c) 512) (acc0B I c) ((View.set_slice_whole _ _).trans (rect_rows (off6B c) rfl _))
    (fun v h => put_of_emb 512 _ (off6B c) _ v _ h)) $$ Hp; iintro Hp
  iapply (wp_waitS I K c 0 [2, 3, 4, 5, 6, 7, 8, 9, 10, 11] (b := .whole cc0_scratch4) rfl) $$ [Hcr Hpos Ho]
  · isplitr; · iexact HC
    isplitl [Hcr]; · iexact Hcr
    isplitl [Hpos]; · iexact Hpos
    iexact Ho
  iintro ⟨Hs, Hz, Ho⟩
  iapply (wret c)
  iapply Hk
  isplitl [Hx Hc He]
  · isplitl [Hx]; · iexact Hx
    isplitl [Hc]; · iexact Hc
    iexact He
  isplitl [Hp]; · iexact Hp
  isplitl [Hs]; · iexact Hs
  isplitl [Hz]; · iexact Hz
  iexact Ho

end Cert.Moe

end
-- ==== Proof.BodyC.lean ====
/-
# 01_k: the body, the halving stages

What arrives is added to the rows kept, and half of those passed on: stages `0`, `1` and `2` of the sum over the devices.
-/
module

public import proofs.«01_k».proof.Proof.BodyB

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Bool × Fin 12) → ℕ) (c : Dev nD)

/-! ## What passes at each transfer -/

theorem take0 : recvPay I c 0 ⊢ has c cc0_scratch6 (sendA I (par 1 c)) := by unfold recvPay; iintro H; iexact H
theorem take1 : recvPay I c 1 ⊢ has c cc0_scratch9 (sendB I (par 2 c)) := by unfold recvPay; iintro H; iexact H
theorem take2 : recvPay I c 2 ⊢ has c cc0_scratch7 (got1A I c) := by unfold recvPay; iintro H; iexact H
theorem take3 : recvPay I c 3 ⊢ has c cc0_scratch10 (got1B I c) := by unfold recvPay; iintro H; iexact H
theorem take4 : recvPay I c 4 ⊢ has c cc0_scratch8 (got2A I c) := by unfold recvPay; iintro H; iexact H
theorem take5 : recvPay I c 5 ⊢ has c cc0_scratch11 (got2B I c) := by unfold recvPay; iintro H; iexact H

theorem paidS2 (f : FVec F S1024x512 .bf16) : own0 c (sLo 0 1 c) 256 f ⊢ sendPay I c 2 := by unfold sendPay; iintro H; iexists _; iexact H
theorem paidS3 (f : FVec F S1024x512 .bf16) : own1 c (sLo 1 1 c) 256 f ⊢ sendPay I c 3 := by unfold sendPay; iintro H; iexists _; iexact H
theorem paidS4 (f : FVec F S1024x512 .bf16) : own0 c (sLo 0 2 c) 128 f ⊢ sendPay I c 4 := by unfold sendPay; iintro H; iexists _; iexact H
theorem paidS5 (f : FVec F S1024x512 .bf16) : own1 c (sLo 1 2 c) 128 f ⊢ sendPay I c 5 := by unfold sendPay; iintro H; iexists _; iexact H

theorem paidR2 : has (tpeer 2 c) cc0_scratch7 (cut 256 (sLo 0 1 c) (acc1A I c)) ⊢ recvPay I (tpeer 2 c) 2 := by
  unfold recvPay
  show _ ⊢ has (tpeer 2 c) cc0_scratch7 (cut 256 (kLo 0 1 (par 0 c)) (acc1A I (par 0 (par 0 c))))
  rw [par_par, sLo_eq]; exact .rfl
theorem paidR3 : has (tpeer 3 c) cc0_scratch10 (cut 256 (sLo 1 1 c) (acc1B I c)) ⊢ recvPay I (tpeer 3 c) 3 := by
  unfold recvPay
  show _ ⊢ has (tpeer 3 c) cc0_scratch10 (cut 256 (kLo 1 1 (par 1 c)) (acc1B I (par 1 (par 1 c))))
  rw [par_par, sLo_eq]; exact .rfl
theorem paidR4 : has (tpeer 4 c) cc0_scratch8 (cut 128 (sLo 0 2 c) (acc2A I c)) ⊢ recvPay I (tpeer 4 c) 4 := by
  unfold recvPay
  show _ ⊢ has (tpeer 4 c) cc0_scratch8 (cut 128 (kLo 0 2 (par 2 c)) (acc2A I (par 2 (par 2 c))))
  rw [par_par, sLo_eq]; exact .rfl
theorem paidR5 : has (tpeer 5 c) cc0_scratch11 (cut 128 (sLo 1 2 c) (acc2B I c)) ⊢ recvPay I (tpeer 5 c) 5 := by
  unfold recvPay
  show _ ⊢ has (tpeer 5 c) cc0_scratch11 (cut 128 (kLo 1 2 (par 0 c)) (acc2B I (par 0 (par 0 c))))
  rw [par_par, sLo_eq]; exact .rfl

/-- The rows passed on at stage `1`. -/
abbrev src2 : Memref sig .tc .vmem S256x512 .bf16 :=
  (Memref.whole cc0_scratch0).slice (Rect.unit (s := S1024x512) (k0_off11 c 3#32 1#32) S256x512.size (k0_off11_inb c 0)) (fun _ => rfl)
abbrev src3 : Memref sig .tc .vmem S256x512 .bf16 :=
  (Memref.whole cc0_scratch1).slice (Rect.unit (s := S1024x512) (k0_off11 c 4#32 3#32) S256x512.size (k0_off11_inb c 1)) (fun _ => rfl)

/-! ## The sums as the program forms them -/

theorem acc1A_eq : acc1A I c = put 512 (kLo 0 0 c) (by decide) (k0_pay25 (cut 512 (kLo 0 0 c) (acc0A I c)) (sendA I (par 1 c))) := by
  unfold acc1A acc0A; rw [cut_put (n := 512) (kLo_le 0 0 c)]
theorem acc1B_eq : acc1B I c = put 512 (kLo 1 0 c) (by decide) (k0_pay26 (cut 512 (kLo 1 0 c) (acc0B I c)) (sendB I (par 2 c))) := by
  unfold acc1B acc0B; rw [cut_put (n := 512) (kLo_le 1 0 c)]

/-- A buffer's rows fall into two parts. -/
theorem halves {l : Loc nD τ sig} {A B C : Finset (Idx l)} (h : A = B ∪ C) (hd : Disjoint B C) {q : PosShare TreeShare} (f : Buf (Elt F) l) :
    (l ↦[A]{q} f : sProp 𝕄) ⊣⊢ iprop((l ↦[B]{q} f) ∗ (l ↦[C]{q} f)) := by
  subst h; exact pointsTo_union hd

theorem part10 {Q} (a b d e g : BitVec 32) :
    iprop(ctx I K ∗ own0 c (kLo 0 0 c) 512 (acc0A I c) ∗ own1 c (kLo 1 0 c) 512 (acc0B I c) ∗ posR c 0 ∗ credS c 1 ∗ posS c 1 ∗ posR c 1
        ∗ ow c (owedFrom c [2, 3, 4, 5, 6, 7, 8, 9, 10, 11])
        ∗ (∀ v₀ v₁, (own0 c (kLo 0 0 c) 512 (acc1A I c) ∗ own1 c (kLo 1 0 c) 512 (acc1B I c)
            ∗ has c cc0_scratch6 (sendA I (par 1 c)) ∗ semVal (recvCell 0 c) 0 ∗ sendPay I c 1 ∗ semVal (sendCell 1 c) 0
            ∗ has c cc0_scratch9 (sendB I (par 2 c)) ∗ semVal (recvCell 1 c) 0
            ∗ ow c (owedFrom c [2, 3, 4, 5, 6, 7, 8, 9, 10, 11])) -∗ Q ⟨v₀, v₁⟩))
      ⊢ WP c (onBufs k0_part10 c a b d e g) Q := by
  simp only [onBufs, k0_part10_eq_skeleton]; unfold k0_part10_skel
  simp only [Prog.lift, Prog.bind_op, Prog.bind_ret, Prog.pure_eq_ret]
  iintro ⟨#HC, Hp, Hq, HR0, Hc1, HS1, HR1, Ho, Hk⟩
  iapply (wp_waitR I K c 0 [2, 3, 4, 5, 6, 7, 8, 9, 10, 11] (by decide) (b := .whole cc0_scratch6) rfl) $$ [HR0 Ho]
  · isplitr; · iexact HC
    isplitl [HR0]; · iexact HR0
    iexact Ho
  iintro ⟨Hg0, Hz0, Ho⟩
  iapply (wp_waitS I K c 1 [2, 3, 4, 5, 6, 7, 8, 9, 10, 11] (b := .whole cc0_scratch5) rfl) $$ [Hc1 HS1 Ho]
  · isplitr; · iexact HC
    isplitl [Hc1]; · iexact Hc1
    isplitl [HS1]; · iexact HS1
    iexact Ho
  iintro ⟨Hs1, Hz1, Ho⟩
  iapply (wp_waitR I K c 1 [2, 3, 4, 5, 6, 7, 8, 9, 10, 11] (by decide) (b := .whole cc0_scratch9) rfl) $$ [HR1 Ho]
  · isplitr; · iexact HC
    isplitl [HR1]; · iexact HR1
    iexact Ho
  iintro ⟨Hg1, Hz2, Ho⟩
  ihave Hg0 := (take0 I c) $$ Hg0
  ihave Hg1 := (take1 I c) $$ Hg1
  iapply (ldr c (.whole cc0_scratch0) 512 (off6A c) (S := rows (kLo 0 0 c) 512) ((setOn_rect _ _).trans (rect_rows (off6A c) rfl _)).le (acc0A I c) rfl) $$ Hp; iintro Hp
  iapply (ld c (m := Memref.whole cc0_scratch6) (Finset.subset_univ _) (sendA I (par 1 c)) (Memref.readAt_unit_zero (Elt F) cc0_scratch6 hz2 _ _)) $$ Hg0; iintro Hg0
  iapply (ldr c (.whole cc0_scratch0) 512 (off6A c) (S := rows (kLo 0 0 c) 512) ((setOn_rect _ _).trans (rect_rows (off6A c) rfl _)).le (acc0A I c) rfl) $$ Hp; iintro Hp
  iapply (str c (.whole cc0_scratch0) (rows (kLo 0 0 c) 512) (acc1A I c) ((View.set_slice_whole _ _).trans (rect_rows (off6A c) rfl _))
    (fun v h i hi => (put_of_emb 512 _ (off6A c) _ v _ h i hi).trans (congrFun (acc1A_eq I c) i).symm)) $$ Hp; iintro Hp
  iapply (ldr c (.whole cc0_scratch1) 512 (off6B c) (S := rows (kLo 1 0 c) 512) ((setOn_rect _ _).trans (rect_rows (off6B c) rfl _)).le (acc0B I c) rfl) $$ Hq; iintro Hq
  iapply (ld c (m := Memref.whole cc0_scratch9) (Finset.subset_univ _) (sendB I (par 2 c)) (Memref.readAt_unit_zero (Elt F) cc0_scratch9 hz2 _ _)) $$ Hg1; iintro Hg1
  iapply (ldr c (.whole cc0_scratch1) 512 (off6B c) (S := rows (kLo 1 0 c) 512) ((setOn_rect _ _).trans (rect_rows (off6B c) rfl _)).le (acc0B I c) rfl) $$ Hq; iintro Hq
  iapply (str c (.whole cc0_scratch1) (rows (kLo 1 0 c) 512) (acc1B I c) ((View.set_slice_whole _ _).trans (rect_rows (off6B c) rfl _))
    (fun v h i hi => (put_of_emb 512 _ (off6B c) _ v _ h i hi).trans (congrFun (acc1B_eq I c) i).symm)) $$ Hq; iintro Hq
  iapply (wret c)
  iapply Hk
  isplitl [Hp]; · iexact Hp
  isplitl [Hq]; · iexact Hq
  isplitl [Hg0]; · iexact Hg0
  isplitl [Hz0]; · iexact Hz0
  isplitl [Hs1]; · iexact Hs1
  isplitl [Hz1]; · iexact Hz1
  isplitl [Hg1]; · iexact Hg1
  isplitl [Hz2]; · iexact Hz2
  iexact Ho

theorem part11 {Q} (a b d e : BitVec 32) :
    iprop(ctx I K ∗ own0 c (kLo 0 0 c) 512 (acc1A I c) ∗ own1 c (kLo 1 0 c) 512 (acc1B I c) ∗ landing (tpeer 2 c) 2 ∗ landing (tpeer 3 c) 3
        ∗ toks c 2 ∗ toks c 3 ∗ posS c 2 ∗ posR c 2 ∗ has c cc0_stg4_0 (I.sw c) ∗ has c cc0_stg0_0 (I.x c)
        ∗ ow c (owedFrom c [2, 3, 4, 5, 6, 7, 8, 9, 10, 11])
        ∗ ((own0 c (kLo 0 1 c) 256 (acc1A I c) ∗ own1 c (kLo 1 1 c) 256 (acc1B I c)
            ∗ sendPay I c 2 ∗ semVal (sendCell 2 c) 0 ∗ has c cc0_scratch7 (got1A I c) ∗ semVal (recvCell 2 c) 0 ∗ credS c 3
            ∗ has c cc0_stg4_0 (I.sw c) ∗ has c cc0_stg0_0 (I.x c)
            ∗ ow c (owedFrom c [4, 5, 6, 7, 8, 9, 10, 11]))
          -∗ Q ⟨k0_pay28 (I.sw c) (cut 128 (kLo 0 2 c) (I.x c)), k0_pay29 (I.sw c) (cut 128 (kLo 1 2 c) (I.x c))⟩))
      ⊢ WP c (onBufs k0_part11 c a b d e) Q := by
  simp only [onBufs, k0_part11_eq_skeleton]; unfold k0_part11_skel
  simp only [Prog.lift, Prog.bind_op, Prog.bind_ret, Prog.pure_eq_ret]
  unfold landing
  iintro ⟨#HC, Hp, Hq, ⟨%f2, Hl2⟩, ⟨%f3, Hl3⟩, Ht2, Ht3, HS2, HR2, Hw, Hx, Ho, Hk⟩
  ihave ⟨Hp, Hp'⟩ := (halves (rows_split1 0 c) (disj1 0 c) _).1 $$ Hp
  ihave ⟨Hq, Hq'⟩ := (halves (rows_split1 1 c) (disj1 1 c) _).1 $$ Hq
  iapply (wp_xfer I K c 2 [3, 4, 5, 6, 7, 8, 9, 10, 11] (dev6_eq c) (src := src2 c) (dst := .whole cc0_scratch7) (S := rows (sLo 0 1 c) 256)
    ((View.set_slice_whole _ _).trans (rect_rows (off11A c) rfl _)) (View.set_whole _) rfl (fd := f2) (fs := acc1A I c) (paidS2 I c _)
    (by rw [View.write_whole_univ]; exact (Entails.of_eq (congrArg (has (tpeer 2 c) cc0_scratch7) (cut_emb 256 (off11A c) _ (acc1A I c)))).trans (paidR2 I c))) $$ [Hp' Hl2 Ho Ht2]
  · isplitr; · iexact HC
    isplitl [Hp']; · iexact Hp'
    isplitl [Hl2]; · iexact Hl2
    isplitl [Ho]; · iexact Ho
    iexact Ht2
  iintro ⟨Hc2, Ho⟩
  iapply (wp_xfer I K c 3 [4, 5, 6, 7, 8, 9, 10, 11] (dev7_eq c) (src := src3 c) (dst := .whole cc0_scratch10) (S := rows (sLo 1 1 c) 256)
    ((View.set_slice_whole _ _).trans (rect_rows (off11B c) rfl _)) (View.set_whole _) rfl (fd := f3) (fs := acc1B I c) (paidS3 I c _)
    (by rw [View.write_whole_univ]; exact (Entails.of_eq (congrArg (has (tpeer 3 c) cc0_scratch10) (cut_emb 256 (off11B c) _ (acc1B I c)))).trans (paidR3 I c))) $$ [Hq' Hl3 Ho Ht3]
  · isplitr; · iexact HC
    isplitl [Hq']; · iexact Hq'
    isplitl [Hl3]; · iexact Hl3
    isplitl [Ho]; · iexact Ho
    iexact Ht3
  iintro ⟨Hc3, Ho⟩
  iapply (ld c (m := Memref.whole cc0_stg4_0) (Finset.subset_univ _) (I.sw c) (Memref.readAt_unit_zero (Elt F) cc0_stg4_0 hz2 _ _)) $$ Hw; iintro Hw
  iapply (ldr c (.whole cc0_stg0_0) 128 (off12A c) (Finset.subset_univ _) (I.x c) rfl) $$ Hx; iintro Hx
  iapply (ldr c (.whole cc0_stg0_0) 128 (off12B c) (Finset.subset_univ _) (I.x c) rfl) $$ Hx; iintro Hx
  iapply (wp_waitS I K c 2 [4, 5, 6, 7, 8, 9, 10, 11] (b := src2 c) rfl) $$ [Hc2 HS2 Ho]
  · isplitr; · iexact HC
    isplitl [Hc2]; · iexact Hc2
    isplitl [HS2]; · iexact HS2
    iexact Ho
  iintro ⟨Hs, Hz0, Ho⟩
  iapply (wp_waitR I K c 2 [4, 5, 6, 7, 8, 9, 10, 11] (by decide) (b := .whole cc0_scratch7) rfl) $$ [HR2 Ho]
  · isplitr; · iexact HC
    isplitl [HR2]; · iexact HR2
    iexact Ho
  iintro ⟨Hg, Hz1, Ho⟩
  ihave Hg := (take2 I c) $$ Hg
  iapply (wret c)
  iapply Hk
  isplitl [Hp]; · iexact Hp
  isplitl [Hq]; · iexact Hq
  isplitl [Hs]; · iexact Hs
  isplitl [Hz0]; · iexact Hz0
  isplitl [Hg]; · iexact Hg
  isplitl [Hz1]; · iexact Hz1
  isplitl [Hc3]; · iexact Hc3
  isplitl [Hw]; · iexact Hw
  isplitl [Hx]; · iexact Hx
  iexact Ho

/-- The rows passed on at stage `2`. -/
abbrev src4 : Memref sig .tc .vmem S128x512 .bf16 :=
  (Memref.whole cc0_scratch0).slice (Rect.unit (s := S1024x512) (k0_off14 c 3#32 1#32 4#32) S128x512.size (k0_off14_inb c 0)) (fun _ => rfl)
abbrev src5 : Memref sig .tc .vmem S128x512 .bf16 :=
  (Memref.whole cc0_scratch1).slice (Rect.unit (s := S1024x512) (k0_off14 c 4#32 3#32 1#32) S128x512.size (k0_off14_inb c 1)) (fun _ => rfl)

theorem part12 {Q} (a b d e : BitVec 32) :
    iprop(ctx I K ∗ own0 c (kLo 0 1 c) 256 (acc1A I c) ∗ own1 c (kLo 1 1 c) 256 (acc1B I c) ∗ has c cc0_scratch7 (got1A I c) ∗ landing (tpeer 4 c) 4
        ∗ toks c 4 ∗ credS c 3 ∗ posS c 3 ∗ posR c 3 ∗ ow c (owedFrom c [4, 5, 6, 7, 8, 9, 10, 11])
        ∗ (∀ v₀ v₁, (own0 c (kLo 0 2 c) 128 (acc2A I c) ∗ own1 c (kLo 1 1 c) 256 (acc2B I c) ∗ has c cc0_scratch7 (got1A I c)
            ∗ sendPay I c 3 ∗ semVal (sendCell 3 c) 0 ∗ has c cc0_scratch10 (got1B I c) ∗ semVal (recvCell 3 c) 0 ∗ credS c 4
            ∗ ow c (owedFrom c [5, 6, 7, 8, 9, 10, 11])) -∗ Q ⟨v₀, v₁⟩))
      ⊢ WP c (onBufs k0_part12 c a b d e) Q := by
  simp only [onBufs, k0_part12_eq_skeleton]; unfold k0_part12_skel
  simp only [Prog.lift, Prog.bind_op, Prog.bind_ret, Prog.pure_eq_ret]
  unfold landing
  iintro ⟨#HC, Hp, Hq, Hg2, ⟨%f4, Hl4⟩, Ht4, Hc3, HS3, HR3, Ho, Hk⟩
  iapply (wp_waitS I K c 3 [4, 5, 6, 7, 8, 9, 10, 11] (b := src3 c) rfl) $$ [Hc3 HS3 Ho]
  · isplitr; · iexact HC
    isplitl [Hc3]; · iexact Hc3
    isplitl [HS3]; · iexact HS3
    iexact Ho
  iintro ⟨Hs, Hz0, Ho⟩
  iapply (wp_waitR I K c 3 [4, 5, 6, 7, 8, 9, 10, 11] (by decide) (b := .whole cc0_scratch10) rfl) $$ [HR3 Ho]
  · isplitr; · iexact HC
    isplitl [HR3]; · iexact HR3
    iexact Ho
  iintro ⟨Hg3, Hz1, Ho⟩
  ihave Hg3 := (take3 I c) $$ Hg3
  iapply (ldr c (.whole cc0_scratch0) 256 (off13A c) (S := rows (kLo 0 1 c) 256) ((setOn_rect _ _).trans (rect_rows (off13A c) rfl _)).le (acc1A I c) rfl) $$ Hp; iintro Hp
  iapply (ld c (m := Memref.whole cc0_scratch7) (Finset.subset_univ _) (got1A I c) (Memref.readAt_unit_zero (Elt F) cc0_scratch7 hz2 _ _)) $$ Hg2; iintro Hg2
  iapply (ldr c (.whole cc0_scratch0) 256 (off13A c) (S := rows (kLo 0 1 c) 256) ((setOn_rect _ _).trans (rect_rows (off13A c) rfl _)).le (acc1A I c) rfl) $$ Hp; iintro Hp
  iapply (str c (.whole cc0_scratch0) (rows (kLo 0 1 c) 256) (acc2A I c) ((View.set_slice_whole _ _).trans (rect_rows (off13A c) rfl _))
    (fun v h => put_of_emb 256 _ (off13A c) _ v _ h)) $$ Hp; iintro Hp
  iapply (ldr c (.whole cc0_scratch1) 256 (off13B c) (S := rows (kLo 1 1 c) 256) ((setOn_rect _ _).trans (rect_rows (off13B c) rfl _)).le (acc1B I c) rfl) $$ Hq; iintro Hq
  iapply (ld c (m := Memref.whole cc0_scratch10) (Finset.subset_univ _) (got1B I c) (Memref.readAt_unit_zero (Elt F) cc0_scratch10 hz2 _ _)) $$ Hg3; iintro Hg3
  iapply (ldr c (.whole cc0_scratch1) 256 (off13B c) (S := rows (kLo 1 1 c) 256) ((setOn_rect _ _).trans (rect_rows (off13B c) rfl _)).le (acc1B I c) rfl) $$ Hq; iintro Hq
  iapply (str c (.whole cc0_scratch1) (rows (kLo 1 1 c) 256) (acc2B I c) ((View.set_slice_whole _ _).trans (rect_rows (off13B c) rfl _))
    (fun v h => put_of_emb 256 _ (off13B c) _ v _ h)) $$ Hq; iintro Hq
  ihave ⟨Hp, Hp'⟩ := (halves (rows_split2 0 c) (disj2 0 c) _).1 $$ Hp
  iapply (wp_xfer I K c 4 [5, 6, 7, 8, 9, 10, 11] (dev8_eq c) (src := src4 c) (dst := .whole cc0_scratch8)
    (S := rows (sLo 0 2 c) 128) ((View.set_slice_whole _ _).trans (rect_rows (off14A c) rfl _)) (View.set_whole _) rfl (fd := f4) (fs := acc2A I c) (paidS4 I c _)
    (by rw [View.write_whole_univ]; exact (Entails.of_eq (congrArg (has (tpeer 4 c) cc0_scratch8) (cut_emb 128 (off14A c) _ (acc2A I c)))).trans (paidR4 I c))) $$ [Hp' Hl4 Ho Ht4]
  · isplitr; · iexact HC
    isplitl [Hp']; · iexact Hp'
    isplitl [Hl4]; · iexact Hl4
    isplitl [Ho]; · iexact Ho
    iexact Ht4
  iintro ⟨Hc4, Ho⟩
  iapply (wret c)
  iapply Hk
  isplitl [Hp]; · iexact Hp
  isplitl [Hq]; · iexact Hq
  isplitl [Hg2]; · iexact Hg2
  isplitl [Hs]; · iexact Hs
  isplitl [Hz0]; · iexact Hz0
  isplitl [Hg3]; · iexact Hg3
  isplitl [Hz1]; · iexact Hz1
  isplitl [Hc4]; · iexact Hc4
  iexact Ho

theorem part13 {Q} (a b d : BitVec 32) (w : FVec F S128x512 .f32) :
    iprop(ctx I K ∗ own0 c (kLo 0 2 c) 128 (acc2A I c) ∗ own1 c (kLo 1 1 c) 256 (acc2B I c) ∗ landing (tpeer 5 c) 5
        ∗ toks c 5 ∗ credS c 4 ∗ posS c 4 ∗ posR c 4 ∗ posS c 5 ∗ posR c 5 ∗ ow c (owedFrom c [5, 6, 7, 8, 9, 10, 11])
        ∗ ((own0 c (kLo 0 2 c) 128 (acc2A I c) ∗ own1 c (kLo 1 2 c) 128 (acc2B I c)
            ∗ sendPay I c 4 ∗ semVal (sendCell 4 c) 0 ∗ has c cc0_scratch8 (got2A I c) ∗ semVal (recvCell 4 c) 0
            ∗ sendPay I c 5 ∗ semVal (sendCell 5 c) 0 ∗ has c cc0_scratch11 (got2B I c) ∗ semVal (recvCell 5 c) 0
            ∗ ow c (owedFrom c [6, 7, 8, 9, 10, 11])) -∗ Q (k0_pay32 w (cut 128 (kLo 0 2 c) (acc2A I c)) (got2A I c))))
      ⊢ WP c (onBufs k0_part13 c a w b d) Q := by
  simp only [onBufs, k0_part13_eq_skeleton]; unfold k0_part13_skel
  simp only [Prog.lift, Prog.bind_op, Prog.bind_ret, Prog.pure_eq_ret]
  unfold landing
  iintro ⟨#HC, Hp, Hq, ⟨%f5, Hl5⟩, Ht5, Hc4, HS4, HR4, HS5, HR5, Ho, Hk⟩
  ihave ⟨Hq, Hq'⟩ := (halves (rows_split2 1 c) (disj2 1 c) _).1 $$ Hq
  iapply (wp_xfer I K c 5 [6, 7, 8, 9, 10, 11] (dev9_eq c) (src := src5 c) (dst := .whole cc0_scratch11)
    (S := rows (sLo 1 2 c) 128) ((View.set_slice_whole _ _).trans (rect_rows (off14B c) rfl _)) (View.set_whole _) rfl (fd := f5) (fs := acc2B I c) (paidS5 I c _)
    (by rw [View.write_whole_univ]; exact (Entails.of_eq (congrArg (has (tpeer 5 c) cc0_scratch11) (cut_emb 128 (off14B c) _ (acc2B I c)))).trans (paidR5 I c))) $$ [Hq' Hl5 Ho Ht5]
  · isplitr; · iexact HC
    isplitl [Hq']; · iexact Hq'
    isplitl [Hl5]; · iexact Hl5
    isplitl [Ho]; · iexact Ho
    iexact Ht5
  iintro ⟨Hc5, Ho⟩
  iapply (wp_waitS I K c 4 [6, 7, 8, 9, 10, 11] (b := src4 c) rfl) $$ [Hc4 HS4 Ho]
  · isplitr; · iexact HC
    isplitl [Hc4]; · iexact Hc4
    isplitl [HS4]; · iexact HS4
    iexact Ho
  iintro ⟨Hs4, Hy4, Ho⟩
  iapply (wp_waitR I K c 4 [6, 7, 8, 9, 10, 11] (by decide) (b := .whole cc0_scratch8) rfl) $$ [HR4 Ho]
  · isplitr; · iexact HC
    isplitl [HR4]; · iexact HR4
    iexact Ho
  iintro ⟨Hg4, Hz4, Ho⟩
  iapply (wp_waitS I K c 5 [6, 7, 8, 9, 10, 11] (b := src5 c) rfl) $$ [Hc5 HS5 Ho]
  · isplitr; · iexact HC
    isplitl [Hc5]; · iexact Hc5
    isplitl [HS5]; · iexact HS5
    iexact Ho
  iintro ⟨Hs5, Hy5, Ho⟩
  iapply (wp_waitR I K c 5 [6, 7, 8, 9, 10, 11] (by decide) (b := .whole cc0_scratch11) rfl) $$ [HR5 Ho]
  · isplitr; · iexact HC
    isplitl [HR5]; · iexact HR5
    iexact Ho
  iintro ⟨Hg5, Hz5, Ho⟩
  ihave Hg4 := (take4 I c) $$ Hg4
  ihave Hg5 := (take5 I c) $$ Hg5
  iapply (ldr c (.whole cc0_scratch0) 128 (off12A c) (S := rows (kLo 0 2 c) 128) ((setOn_rect _ _).trans (rect_rows (off12A c) rfl _)).le (acc2A I c) rfl) $$ Hp; iintro Hp
  iapply (ld c (m := Memref.whole cc0_scratch8) (Finset.subset_univ _) (got2A I c) (Memref.readAt_unit_zero (Elt F) cc0_scratch8 hz2 _ _)) $$ Hg4; iintro Hg4
  iapply (wret c)
  iapply Hk
  isplitl [Hp]; · iexact Hp
  isplitl [Hq]; · iexact Hq
  isplitl [Hs4]; · iexact Hs4
  isplitl [Hy4]; · iexact Hy4
  isplitl [Hg4]; · iexact Hg4
  isplitl [Hz4]; · iexact Hz4
  isplitl [Hs5]; · iexact Hs5
  isplitl [Hy5]; · iexact Hy5
  isplitl [Hg5]; · iexact Hg5
  isplitl [Hz5]; · iexact Hz5
  iexact Ho

end Cert.Moe

end
-- ==== Proof.BodyD.lean ====
/-
# 01_k: the body, the doubling stages

The finished rows go to the partners, twice as many at each stage, until every device holds all of them, and the result is written from them.
-/
module

public import proofs.«01_k».proof.Proof.BodyC

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Bool × Fin 12) → ℕ) (c : Dev nD)

/-- Device `c` holds the rows `[lo, lo+n)` of a gathered buffer, at a share. -/
abbrev own2 (q : PosShare TreeShare) (lo n : ℕ) (f : FVec F S1024x512 .bf16) : sProp 𝕄 := ((c : Thread nD τ).loc cc0_scratch2) ↦[rows lo n]{q} f
abbrev own3 (q : PosShare TreeShare) (lo n : ℕ) (f : FVec F S1024x512 .bf16) : sProp 𝕄 := ((c : Thread nD τ).loc cc0_scratch3) ↦[rows lo n]{q} f

/-! ## The result's buffer -/

/-- The box of the result that begins at row `lo`, column `col` and has `n` rows and 512 columns. -/
def box (lo n col : ℕ) (r k : ℕ) : Prop := (lo ≤ r ∧ r < lo + n) ∧ col ≤ k ∧ k < col + 512

/-- The result's buffer, right on the elements of `D`. -/
def outS (D : ℕ → ℕ → Prop) : sProp 𝕄 :=
  iprop(∃ f : FVec F S1024x1024 .f32, ⌜∀ i : S1024x1024.Idx, D (i 0).val (i 1).val → f i = outF I i⌝ ∗ has c cc0_stg5_0 f)

/-- A conversion acts on each element. -/
theorem extf_at {s s' : Shape} {v : FVec F s .bf16} {w : FVec F s' .bf16} {j : s.Idx} {j' : s'.Idx} (h : v j = w j') :
    extf .f32 v bitsLt_bf16_f32 j = extf .f32 w bitsLt_bf16_f32 j' :=
  congrArg (fun z => extf (F := F) .f32 (fun _ : s.Idx => z) bitsLt_bf16_f32 j) h

/-- Elements of the result in the left half of the columns, … -/
theorem outF_left {off : Fin 2 → ℕ} (n : ℕ) {lo : ℕ} (ho : off = ![lo, 0]) (inb : ∀ a, off a + (![n, 512] : Fin 2 → ℕ) a ≤ S1024x1024.size a)
    (j : (⟨2, ![n, 512]⟩ : Shape).Idx) :
    extf .f32 (cut n lo (gathA I)) bitsLt_bf16_f32 j = outF I ((Rect.unit (s := S1024x1024) off ![n, 512] inb).emb j) := by
  subst ho
  have hb : lo + n ≤ 1024 := inb 0
  have h0 : (j 0).val < n := (j 0).isLt
  have h1 : (j 1).val < 512 := (j 1).isLt
  have e0 : ((Rect.unit (s := S1024x1024) ![lo, 0] ![n, 512] inb).emb j 0).val = lo + (j 0).val := by
    rw [Rect.emb_apply]; show lo + 1 * (j 0).val = _; omega
  have e1 : ((Rect.unit (s := S1024x1024) ![lo, 0] ![n, 512] inb).emb j 1).val = (j 1).val := by
    rw [Rect.emb_apply]; show 0 + 1 * (j 1).val = _; omega
  unfold outF
  rw [dif_pos (by rw [e1]; exact h1)]
  refine extf_at ?_
  unfold cut
  refine congrArg (gathA I) (ix2_ext ?_ ?_)
  · show (lo + (j 0).val) % 1024 = _
    rw [Nat.mod_eq_of_lt (by omega)]; exact e0.symm
  · exact e1.symm

/-- … and in the right half. -/
theorem outF_right {off : Fin 2 → ℕ} (n : ℕ) {lo : ℕ} (ho : off = ![lo, 512]) (inb : ∀ a, off a + (![n, 512] : Fin 2 → ℕ) a ≤ S1024x1024.size a)
    (j : (⟨2, ![n, 512]⟩ : Shape).Idx) :
    extf .f32 (cut n lo (gathB I)) bitsLt_bf16_f32 j = outF I ((Rect.unit (s := S1024x1024) off ![n, 512] inb).emb j) := by
  subst ho
  have hb : lo + n ≤ 1024 := inb 0
  have h0 : (j 0).val < n := (j 0).isLt
  have h1 : (j 1).val < 512 := (j 1).isLt
  have e0 : ((Rect.unit (s := S1024x1024) ![lo, 512] ![n, 512] inb).emb j 0).val = lo + (j 0).val := by
    rw [Rect.emb_apply]; show lo + 1 * (j 0).val = _; omega
  have e1 : ((Rect.unit (s := S1024x1024) ![lo, 512] ![n, 512] inb).emb j 1).val = 512 + (j 1).val := by
    rw [Rect.emb_apply]; show 512 + 1 * (j 1).val = _; omega
  unfold outF
  rw [dif_neg (by rw [e1]; omega)]
  refine extf_at ?_
  unfold cut
  refine congrArg (gathB I) (ix2_ext ?_ ?_)
  · show (lo + (j 0).val) % 1024 = _
    rw [Nat.mod_eq_of_lt (by omega)]; exact e0.symm
  · show (j 1).val = _ - 512
    rw [e1]; omega

/-- A box of the result is loaded (its old contents are not used) and written. -/
theorem wp_box {α : Type} {Q : α → sProp 𝕄} {off : Fin 2 → ℕ} (n : ℕ) {lo col : ℕ} (D : ℕ → ℕ → Prop) (ho : off = ![lo, col])
    {inb inb' : ∀ a, off a + (![n, 512] : Fin 2 → ℕ) a ≤ S1024x1024.size a}
    {hl : (Memref.whole cc0_stg5_0).view.LoadsAt (Rect.unit (s := S1024x1024) off ![n, 512] inb).toLoadRect}
    {w : FVec F (⟨2, ![n, 512]⟩ : Shape) .f32}
    {hx : ((Memref.whole cc0_stg5_0).access (Rect.unit (s := S1024x1024) off ![n, 512] inb')).Stores Finset.univ}
    {hm : (Finset.univ : Finset (Rect.unit (s := S1024x1024) off ![n, 512] inb').shape.Idx) = Finset.univ ∨ ∀ a, (Rect.unit (s := S1024x1024) off ![n, 512] inb').stride a = 1}
    (hw : ∀ j, w j = outF I ((Rect.unit (s := S1024x1024) off ![n, 512] inb').emb j))
    {k : PUnit → Prog (TpuEff nD τ sig (Elt F) Λ₀ .tc) α} :
    outS I c D ⊢ iprop((outS I c (fun r k => D r k ∨ box lo n col r k) -∗ WP c (k ⟨⟩) Q)
      -∗ WP c (.op (.load (Memref.whole cc0_stg5_0) (Rect.unit (s := S1024x1024) off ![n, 512] inb).toLoadRect hl) fun _ =>
          .op (.store (Memref.whole cc0_stg5_0) (Rect.unit (s := S1024x1024) off ![n, 512] inb') w Finset.univ hx hm) k) Q) := by
  unfold outS
  iintro ⟨%f, %hf, H⟩ Hk
  iapply (wp_load 𝒱₀ (c : Thread nD τ) none Set.univ (m := Memref.whole cc0_stg5_0) (Finset.subset_univ _)) $$ H; iintro H
  iapply (stW c (m := Memref.whole cc0_stg5_0)) $$ H; iintro H
  iapply Hk
  iexists _
  isplitr
  swap
  · iexact H
  · ipureintro
    intro i hi
    by_cases hmem : i ∈ ((Memref.whole cc0_stg5_0).access (Rect.unit (s := S1024x1024) off ![n, 512] inb')).set
    · obtain ⟨j, -, rfl⟩ := Finset.mem_map.mp hmem
      exact (View.write_emb_of_mem _ _ (Finset.mem_univ j)).trans (hw j)
    · refine (View.write_of_not_mem _ _ _ hmem).trans (hf i ?_)
      rcases hi with h | h
      · exact h
      · exfalso; apply hmem
        have hs := View.set_slice_whole cc0_stg5_0 (Rect.unit (s := S1024x1024) off ![n, 512] inb')
        have hi' : i ∈ (Rect.unit (s := S1024x1024) off ![n, 512] inb').set := by
          subst ho
          rw [Rect.mem_set_unit]
          intro a
          fin_cases a
          · exact h.1
          · exact h.2
        show i ∈ ((View.whole cc0_stg5_0).slice (Rect.unit (s := S1024x1024) off ![n, 512] inb')).set
        rw [hs]; exact hi'

/-! ## What passes at each transfer -/

theorem sLo_par (h : Fin 2) (s : Fin 3) : sLo h s (par (hm h s) c) = kLo h s c := by rw [sLo_eq, par_par]

/-- A transfer of rows of one gathered buffer to the same rows of another device's. -/
theorem gath_write {n : Dev nD} {s : Shape} (m : Memref sig .tc .vmem s .bf16) {D : Finset (Idx (m.view.loc (n : Thread nD τ)))} (hD : m.view.set = D)
    (fd g : Buf (Elt F) (m.view.loc (n : Thread nD τ))) :
    (m.view.loc (n : Thread nD τ) ↦[D]{fullShare} (m.view.write (Elt F) fd (m.view.read (Elt F) g) Finset.univ) : sProp 𝕄)
      ⊢ (m.view.loc (n : Thread nD τ) ↦[D]{fullShare} g) := by
  refine Entails.of_eq (pointsTo_congr fun i hi => ?_)
  rw [View.write_read_eq_piecewise]
  exact Finset.piecewise_eq_of_mem _ _ _ (by rw [View.setOn_univ, hD]; exact hi)

abbrev src6 : Memref sig .tc .vmem S128x512 .bf16 :=
  (Memref.whole cc0_scratch2).slice (Rect.unit (s := S1024x512) (k0_off15 c 3#32 1#32 4#32) S128x512.size (k0_off15_inb c 0)) (fun _ => rfl)
theorem set6 : (src6 c).view.set = rows (kLo 0 2 c) 128 := (View.set_slice_whole _ _).trans (rect_rows (off15A c) rfl _)
theorem sent6 : own2 c fullShare.right (kLo 0 2 c) 128 (gathA I) ⊢ sendPay I c 6 := by unfold sendPay; iintro H; iexact H
theorem back6 : sendPay I c 6 ⊢ own2 c fullShare.right (kLo 0 2 c) 128 (gathA I) := by unfold sendPay; iintro H; iexact H
theorem come6 : recvPay I c 6 ⊢ own2 c fullShare (sLo 0 2 c) 128 (gathA I) := by unfold recvPay; iintro H; iexact H
theorem dst6 : (src6 c).view.set = rows (sLo 0 2 (tpeer 6 c)) 128 := (set6 c).trans (congrArg (rows · 128) (sLo_par c 0 2).symm)
theorem goes6 : own2 (tpeer 6 c) fullShare (sLo 0 2 (tpeer 6 c)) 128 (gathA I) ⊢ recvPay I (tpeer 6 c) 6 := by
  unfold recvPay; iintro H; iexact H
abbrev src7 : Memref sig .tc .vmem S128x512 .bf16 :=
  (Memref.whole cc0_scratch3).slice (Rect.unit (s := S1024x512) (k0_off15 c 4#32 3#32 1#32) S128x512.size (k0_off15_inb c 1)) (fun _ => rfl)
theorem set7 : (src7 c).view.set = rows (kLo 1 2 c) 128 := (View.set_slice_whole _ _).trans (rect_rows (off15B c) rfl _)
theorem sent7 : own3 c fullShare.right (kLo 1 2 c) 128 (gathB I) ⊢ sendPay I c 7 := by unfold sendPay; iintro H; iexact H
theorem back7 : sendPay I c 7 ⊢ own3 c fullShare.right (kLo 1 2 c) 128 (gathB I) := by unfold sendPay; iintro H; iexact H
theorem come7 : recvPay I c 7 ⊢ own3 c fullShare (sLo 1 2 c) 128 (gathB I) := by unfold recvPay; iintro H; iexact H
theorem dst7 : (src7 c).view.set = rows (sLo 1 2 (tpeer 7 c)) 128 := (set7 c).trans (congrArg (rows · 128) (sLo_par c 1 2).symm)
theorem goes7 : own3 (tpeer 7 c) fullShare (sLo 1 2 (tpeer 7 c)) 128 (gathB I) ⊢ recvPay I (tpeer 7 c) 7 := by
  unfold recvPay; iintro H; iexact H
abbrev src8 : Memref sig .tc .vmem S256x512 .bf16 :=
  (Memref.whole cc0_scratch2).slice (Rect.unit (s := S1024x512) (k0_off18 c 3#32 1#32) S256x512.size (k0_off18_inb c 0)) (fun _ => rfl)
theorem set8 : (src8 c).view.set = rows (kLo 0 1 c) 256 := (View.set_slice_whole _ _).trans (rect_rows (off18A c) rfl _)
theorem sent8 : own2 c fullShare.right (kLo 0 1 c) 256 (gathA I) ⊢ sendPay I c 8 := by unfold sendPay; iintro H; iexact H
theorem back8 : sendPay I c 8 ⊢ own2 c fullShare.right (kLo 0 1 c) 256 (gathA I) := by unfold sendPay; iintro H; iexact H
theorem come8 : recvPay I c 8 ⊢ own2 c fullShare (sLo 0 1 c) 256 (gathA I) := by unfold recvPay; iintro H; iexact H
theorem dst8 : (src8 c).view.set = rows (sLo 0 1 (tpeer 8 c)) 256 := (set8 c).trans (congrArg (rows · 256) (sLo_par c 0 1).symm)
theorem goes8 : own2 (tpeer 8 c) fullShare (sLo 0 1 (tpeer 8 c)) 256 (gathA I) ⊢ recvPay I (tpeer 8 c) 8 := by
  unfold recvPay; iintro H; iexact H
abbrev src9 : Memref sig .tc .vmem S256x512 .bf16 :=
  (Memref.whole cc0_scratch3).slice (Rect.unit (s := S1024x512) (k0_off18 c 4#32 3#32) S256x512.size (k0_off18_inb c 1)) (fun _ => rfl)
theorem set9 : (src9 c).view.set = rows (kLo 1 1 c) 256 := (View.set_slice_whole _ _).trans (rect_rows (off18B c) rfl _)
theorem sent9 : own3 c fullShare.right (kLo 1 1 c) 256 (gathB I) ⊢ sendPay I c 9 := by unfold sendPay; iintro H; iexact H
theorem back9 : sendPay I c 9 ⊢ own3 c fullShare.right (kLo 1 1 c) 256 (gathB I) := by unfold sendPay; iintro H; iexact H
theorem come9 : recvPay I c 9 ⊢ own3 c fullShare (sLo 1 1 c) 256 (gathB I) := by unfold recvPay; iintro H; iexact H
theorem dst9 : (src9 c).view.set = rows (sLo 1 1 (tpeer 9 c)) 256 := (set9 c).trans (congrArg (rows · 256) (sLo_par c 1 1).symm)
theorem goes9 : own3 (tpeer 9 c) fullShare (sLo 1 1 (tpeer 9 c)) 256 (gathB I) ⊢ recvPay I (tpeer 9 c) 9 := by
  unfold recvPay; iintro H; iexact H
abbrev src10 : Memref sig .tc .vmem S512x512 .bf16 :=
  (Memref.whole cc0_scratch2).slice (Rect.unit (s := S1024x512) (k0_off22 c 3#32) S512x512.size (k0_off22_inb c 0)) (fun _ => rfl)
theorem set10 : (src10 c).view.set = rows (kLo 0 0 c) 512 := (View.set_slice_whole _ _).trans (rect_rows (off22A c) rfl _)
theorem sent10 : own2 c fullShare.right (kLo 0 0 c) 512 (gathA I) ⊢ sendPay I c 10 := by unfold sendPay; iintro H; iexact H
theorem back10 : sendPay I c 10 ⊢ own2 c fullShare.right (kLo 0 0 c) 512 (gathA I) := by unfold sendPay; iintro H; iexact H
theorem come10 : recvPay I c 10 ⊢ own2 c fullShare (sLo 0 0 c) 512 (gathA I) := by unfold recvPay; iintro H; iexact H
theorem dst10 : (src10 c).view.set = rows (sLo 0 0 (tpeer 10 c)) 512 := (set10 c).trans (congrArg (rows · 512) (sLo_par c 0 0).symm)
theorem goes10 : own2 (tpeer 10 c) fullShare (sLo 0 0 (tpeer 10 c)) 512 (gathA I) ⊢ recvPay I (tpeer 10 c) 10 := by
  unfold recvPay; iintro H; iexact H
abbrev src11 : Memref sig .tc .vmem S512x512 .bf16 :=
  (Memref.whole cc0_scratch3).slice (Rect.unit (s := S1024x512) (k0_off22 c 4#32) S512x512.size (k0_off22_inb c 1)) (fun _ => rfl)
theorem set11 : (src11 c).view.set = rows (kLo 1 0 c) 512 := (View.set_slice_whole _ _).trans (rect_rows (off22B c) rfl _)
theorem sent11 : own3 c fullShare.right (kLo 1 0 c) 512 (gathB I) ⊢ sendPay I c 11 := by unfold sendPay; iintro H; iexact H
theorem back11 : sendPay I c 11 ⊢ own3 c fullShare.right (kLo 1 0 c) 512 (gathB I) := by unfold sendPay; iintro H; iexact H
theorem come11 : recvPay I c 11 ⊢ own3 c fullShare (sLo 1 0 c) 512 (gathB I) := by unfold recvPay; iintro H; iexact H
theorem dst11 : (src11 c).view.set = rows (sLo 1 0 (tpeer 11 c)) 512 := (set11 c).trans (congrArg (rows · 512) (sLo_par c 1 0).symm)
theorem goes11 : own3 (tpeer 11 c) fullShare (sLo 1 0 (tpeer 11 c)) 512 (gathB I) ⊢ recvPay I (tpeer 11 c) 11 := by
  unfold recvPay; iintro H; iexact H

/-- A full share lent in half. -/
theorem lend {l : Loc nD τ sig} {A : Finset (Idx l)} (f : Buf (Elt F) l) :
    (l ↦[A]{fullShare} f : sProp 𝕄) ⊣⊢ iprop((l ↦[A]{fullShare.left} f) ∗ (l ↦[A]{fullShare.right} f)) :=
  pointsTo_share (PosShare.mem_left_op_right fullShare)

theorem part14 {Q} (a b d : BitVec 32) :
    iprop(ctx I K ∗ (∃ f, own2 c fullShare (kLo 0 2 c) 128 f) ∗ (∃ f, own3 c fullShare (kLo 1 2 c) 128 f) ∗ own1 c (kLo 1 2 c) 128 (acc2B I c)
        ∗ has c cc0_scratch11 (got2B I c) ∗ landing (tpeer 6 c) 6 ∗ landing (tpeer 7 c) 7 ∗ toks c 6 ∗ toks c 7 ∗ ow c (owedFrom c [6, 7, 8, 9, 10, 11])
        ∗ (∀ v₀ v₁, (own2 c fullShare.left (kLo 0 2 c) 128 (gathA I) ∗ own3 c fullShare.left (kLo 1 2 c) 128 (gathB I)
            ∗ own1 c (kLo 1 2 c) 128 (acc2B I c) ∗ has c cc0_scratch11 (got2B I c) ∗ credS c 6 ∗ credS c 7 ∗ ow c (owedFrom c [8, 9, 10, 11]))
          -∗ Q ⟨v₀, v₁, k0_pay35 (cut 128 (kLo 0 2 c) (gathA I))⟩))
      ⊢ WP c (onBufs k0_part14 c a b d (k0_pay29 (I.sw c) (cut 128 (kLo 1 2 c) (I.x c)))
          (k0_pay32 (k0_pay28 (I.sw c) (cut 128 (kLo 0 2 c) (I.x c))) (cut 128 (kLo 0 2 c) (acc2A I c)) (got2A I c))) Q := by
  simp only [onBufs, k0_part14_eq_skeleton]; unfold k0_part14_skel
  simp only [Prog.lift, Prog.bind_op, Prog.bind_ret, Prog.pure_eq_ret]
  unfold landing
  iintro ⟨#HC, ⟨%u, Hu⟩, ⟨%w, Hw⟩, Hq, Hg, ⟨%f6, Hl6⟩, ⟨%f7, Hl7⟩, Ht6, Ht7, Ho, Hk⟩
  iapply (ldr c (.whole cc0_scratch2) 128 (off12A c) (S := rows (kLo 0 2 c) 128) ((setOn_rect _ _).trans (rect_rows (off12A c) rfl _)).le (u) rfl) $$ Hu; iintro Hu
  iapply (str c (.whole cc0_scratch2) (rows (kLo 0 2 c) 128) (gathA I) ((View.set_slice_whole _ _).trans (rect_rows (off12A c) rfl _))
    (fun v h i hi => (put_of_emb 128 (by decide) (off12A c) _ v _ h i hi).trans (gathA_own I c i hi).symm)) $$ Hu; iintro Hu
  iapply (ldr c (.whole cc0_scratch1) 128 (off12B c) (S := rows (kLo 1 2 c) 128) ((setOn_rect _ _).trans (rect_rows (off12B c) rfl _)).le (acc2B I c) rfl) $$ Hq; iintro Hq
  iapply (ld c (m := Memref.whole cc0_scratch11) (Finset.subset_univ _) (got2B I c) (Memref.readAt_unit_zero (Elt F) cc0_scratch11 hz2 _ _)) $$ Hg; iintro Hg
  iapply (ldr c (.whole cc0_scratch3) 128 (off12B c) (S := rows (kLo 1 2 c) 128) ((setOn_rect _ _).trans (rect_rows (off12B c) rfl _)).le (w) rfl) $$ Hw; iintro Hw
  iapply (str c (.whole cc0_scratch3) (rows (kLo 1 2 c) 128) (gathB I) ((View.set_slice_whole _ _).trans (rect_rows (off12B c) rfl _))
    (fun v h i hi => (put_of_emb 128 (by decide) (off12B c) _ v _ h i hi).trans (gathB_own I c i hi).symm)) $$ Hw; iintro Hw
  ihave ⟨Hu, Hu'⟩ := (lend _).1 $$ Hu
  ihave ⟨Hw, Hw'⟩ := (lend _).1 $$ Hw
  iapply (wp_xfer I K c 6 [7, 8, 9, 10, 11] (dev10_eq c) (src := src6 c) (dst := src6 c)
    (set6 c) (dst6 c) rfl (fd := f6) (fs := gathA I) (sent6 I c)
    ((gath_write (n := tpeer 6 c) (src6 c) (dst6 c) f6 (gathA I)).trans (goes6 I c))) $$ [Hu' Hl6 Ho Ht6]
  · isplitr; · iexact HC
    isplitl [Hu']; · iexact Hu'
    isplitl [Hl6]; · iexact Hl6
    isplitl [Ho]; · iexact Ho
    iexact Ht6
  iintro ⟨Hc6, Ho⟩
  iapply (wp_xfer I K c 7 [8, 9, 10, 11] (dev11_eq c) (src := src7 c) (dst := src7 c)
    (set7 c) (dst7 c) rfl (fd := f7) (fs := gathB I) (sent7 I c)
    ((gath_write (n := tpeer 7 c) (src7 c) (dst7 c) f7 (gathB I)).trans (goes7 I c))) $$ [Hw' Hl7 Ho Ht7]
  · isplitr; · iexact HC
    isplitl [Hw']; · iexact Hw'
    isplitl [Hl7]; · iexact Hl7
    isplitl [Ho]; · iexact Ho
    iexact Ht7
  iintro ⟨Hc7, Ho⟩
  iapply (ldr c (.whole cc0_scratch2) 128 (off12A c) (S := rows (kLo 0 2 c) 128) ((setOn_rect _ _).trans (rect_rows (off12A c) rfl _)).le (gathA I) rfl) $$ Hu; iintro Hu
  iapply (wret c)
  iapply Hk
  isplitl [Hu]; · iexact Hu
  isplitl [Hw]; · iexact Hw
  isplitl [Hq]; · iexact Hq
  isplitl [Hg]; · iexact Hg
  isplitl [Hc6]; · iexact Hc6
  isplitl [Hc7]; · iexact Hc7
  iexact Ho

theorem part15 {Q} (a b d e g : BitVec 32) (D : ℕ → ℕ → Prop) :
    iprop(ctx I K ∗ outS I c D ∗ own2 c fullShare.left (kLo 0 2 c) 128 (gathA I) ∗ own3 c fullShare.left (kLo 1 2 c) 128 (gathB I)
        ∗ credS c 6 ∗ posS c 6 ∗ posR c 6 ∗ credS c 7 ∗ posS c 7 ∗ posR c 7 ∗ ow c (owedFrom c [8, 9, 10, 11])
        ∗ (∀ v₀ v₁, (outS I c (fun r k => (D r k ∨ box (kLo 0 2 c) 128 0 r k) ∨ box (kLo 1 2 c) 128 512 r k)
            ∗ own2 c fullShare (kLo 0 1 c) 256 (gathA I) ∗ own3 c fullShare (kLo 1 1 c) 256 (gathB I)
            ∗ semVal (sendCell 6 c) 0 ∗ semVal (recvCell 6 c) 0 ∗ semVal (sendCell 7 c) 0 ∗ semVal (recvCell 7 c) 0
            ∗ ow c (owedFrom c [8, 9, 10, 11])) -∗ Q ⟨v₀, v₁⟩))
      ⊢ WP c (onBufs k0_part15 c a b d e g (k0_pay35 (cut 128 (kLo 0 2 c) (gathA I)))) Q := by
  simp only [onBufs, k0_part15_eq_skeleton]; unfold k0_part15_skel
  simp only [Prog.lift, Prog.bind_op, Prog.bind_ret, Prog.pure_eq_ret]
  iintro ⟨#HC, Hout, Hu, Hw, Hc6, HS6, HR6, Hc7, HS7, HR7, Ho, Hk⟩
  iapply (wp_box I c 128 _ (off16_eq c) (outF_left I 128 (off16_eq c) _)) $$ Hout; iintro Hout
  iapply (ldr c (.whole cc0_scratch3) 128 (off12B c) (S := rows (kLo 1 2 c) 128) ((setOn_rect _ _).trans (rect_rows (off12B c) rfl _)).le (gathB I) rfl) $$ Hw; iintro Hw
  iapply (wp_box I c 128 _ (off17_eq c) (outF_right I 128 (off17_eq c) _)) $$ Hout; iintro Hout
  iapply (wp_waitS I K c 6 [8, 9, 10, 11] (b := src6 c) rfl) $$ [Hc6 HS6 Ho]
  · isplitr; · iexact HC
    isplitl [Hc6]; · iexact Hc6
    isplitl [HS6]; · iexact HS6
    iexact Ho
  iintro ⟨Hu', Hy6, Ho⟩
  iapply (wp_waitR I K c 6 [8, 9, 10, 11] (by decide) (b := src6 c) rfl) $$ [HR6 Ho]
  · isplitr; · iexact HC
    isplitl [HR6]; · iexact HR6
    iexact Ho
  iintro ⟨Hgu, Hz6, Ho⟩
  iapply (wp_waitS I K c 7 [8, 9, 10, 11] (b := src7 c) rfl) $$ [Hc7 HS7 Ho]
  · isplitr; · iexact HC
    isplitl [Hc7]; · iexact Hc7
    isplitl [HS7]; · iexact HS7
    iexact Ho
  iintro ⟨Hw', Hy7, Ho⟩
  iapply (wp_waitR I K c 7 [8, 9, 10, 11] (by decide) (b := src7 c) rfl) $$ [HR7 Ho]
  · isplitr; · iexact HC
    isplitl [HR7]; · iexact HR7
    iexact Ho
  iintro ⟨Hgw, Hz7, Ho⟩
  ihave Hu' := (back6 I c) $$ Hu'
  ihave Hu := (lend _).2 $$ [Hu Hu']
  · isplitl [Hu]; · iexact Hu
    iexact Hu'
  ihave Hw' := (back7 I c) $$ Hw'
  ihave Hw := (lend _).2 $$ [Hw Hw']
  · isplitl [Hw]; · iexact Hw
    iexact Hw'
  ihave Hgu := (come6 I c) $$ Hgu
  ihave Hu := (halves (l := (c : Thread nD τ).loc cc0_scratch2) (rows_split2 0 c) (disj2 0 c) _).2 $$ [Hu Hgu]
  · isplitl [Hu]; · iexact Hu
    iexact Hgu
  ihave Hgw := (come7 I c) $$ Hgw
  ihave Hw := (halves (l := (c : Thread nD τ).loc cc0_scratch3) (rows_split2 1 c) (disj2 1 c) _).2 $$ [Hw Hgw]
  · isplitl [Hw]; · iexact Hw
    iexact Hgw
  iapply (wret c)
  iapply Hk
  isplitl [Hout]; · iexact Hout
  isplitl [Hu]; · iexact Hu
  isplitl [Hw]; · iexact Hw
  isplitl [Hy6]; · iexact Hy6
  isplitl [Hz6]; · iexact Hz6
  isplitl [Hy7]; · iexact Hy7
  isplitl [Hz7]; · iexact Hz7
  iexact Ho

theorem part16 {Q} (a b d e g : BitVec 32) (x : BitVec 1) (y : BitVec 32) (D : ℕ → ℕ → Prop) :
    iprop(ctx I K ∗ outS I c D ∗ own2 c fullShare (kLo 0 1 c) 256 (gathA I) ∗ own3 c fullShare (kLo 1 1 c) 256 (gathB I)
        ∗ landing (tpeer 8 c) 8 ∗ landing (tpeer 9 c) 9 ∗ toks c 8 ∗ toks c 9 ∗ ow c (owedFrom c [8, 9, 10, 11])
        ∗ (∀ v₀ v₁, (outS I c (fun r k => (D r k ∨ box (sLo 0 2 c) 128 0 r k) ∨ box (sLo 1 2 c) 128 512 r k)
            ∗ own2 c fullShare.left (kLo 0 1 c) 256 (gathA I) ∗ own3 c fullShare.left (kLo 1 1 c) 256 (gathB I)
            ∗ credS c 8 ∗ credS c 9 ∗ ow c (owedFrom c [10, 11])) -∗ Q ⟨v₀, v₁⟩))
      ⊢ WP c (onBufs k0_part16 c a b d e g x y) Q := by
  simp only [onBufs, k0_part16_eq_skeleton]; unfold k0_part16_skel
  simp only [Prog.lift, Prog.bind_op, Prog.bind_ret, Prog.pure_eq_ret]
  unfold landing
  iintro ⟨#HC, Hout, Hu, Hw, ⟨%f8, Hl8⟩, ⟨%f9, Hl9⟩, Ht8, Ht9, Ho, Hk⟩
  ihave ⟨Hu, Hu'⟩ := (lend _).1 $$ Hu
  ihave ⟨Hw, Hw'⟩ := (lend _).1 $$ Hw
  iapply (wp_xfer I K c 8 [9, 10, 11] (dev12_eq c) (src := src8 c) (dst := src8 c)
    (set8 c) (dst8 c) rfl (fd := f8) (fs := gathA I) (sent8 I c)
    ((gath_write (n := tpeer 8 c) (src8 c) (dst8 c) f8 (gathA I)).trans (goes8 I c))) $$ [Hu' Hl8 Ho Ht8]
  · isplitr; · iexact HC
    isplitl [Hu']; · iexact Hu'
    isplitl [Hl8]; · iexact Hl8
    isplitl [Ho]; · iexact Ho
    iexact Ht8
  iintro ⟨Hc8, Ho⟩
  iapply (wp_xfer I K c 9 [10, 11] (dev13_eq c) (src := src9 c) (dst := src9 c)
    (set9 c) (dst9 c) rfl (fd := f9) (fs := gathB I) (sent9 I c)
    ((gath_write (n := tpeer 9 c) (src9 c) (dst9 c) f9 (gathB I)).trans (goes9 I c))) $$ [Hw' Hl9 Ho Ht9]
  · isplitr; · iexact HC
    isplitl [Hw']; · iexact Hw'
    isplitl [Hl9]; · iexact Hl9
    isplitl [Ho]; · iexact Ho
    iexact Ht9
  iintro ⟨Hc9, Ho⟩
  iapply (ldr c (.whole cc0_scratch2) 128 (off19A c) (S := rows (kLo 0 1 c) 256) (((setOn_rect _ _).trans (rect_rows (off19A c) rfl _)).le.trans (rows_sub (by have := cut2 0 c; omega))) (gathA I) rfl) $$ Hu; iintro Hu
  iapply (wp_box I c 128 _ (off20_eq c) (outF_left I 128 (off20_eq c) _)) $$ Hout; iintro Hout
  iapply (ldr c (.whole cc0_scratch3) 128 (off19B c) (S := rows (kLo 1 1 c) 256) (((setOn_rect _ _).trans (rect_rows (off19B c) rfl _)).le.trans (rows_sub (by have := cut2 1 c; omega))) (gathB I) rfl) $$ Hw; iintro Hw
  iapply (wp_box I c 128 _ (off21_eq c) (outF_right I 128 (off21_eq c) _)) $$ Hout; iintro Hout
  iapply (wret c)
  iapply Hk
  isplitl [Hout]; · iexact Hout
  isplitl [Hu]; · iexact Hu
  isplitl [Hw]; · iexact Hw
  isplitl [Hc8]; · iexact Hc8
  isplitl [Hc9]; · iexact Hc9
  iexact Ho

theorem part17 {Q} (a b d e g x y : BitVec 32) :
    iprop(ctx I K ∗ own2 c fullShare.left (kLo 0 1 c) 256 (gathA I) ∗ own3 c fullShare.left (kLo 1 1 c) 256 (gathB I)
        ∗ credS c 8 ∗ posS c 8 ∗ posR c 8 ∗ credS c 9 ∗ posS c 9 ∗ posR c 9 ∗ ow c (owedFrom c [10, 11])
        ∗ (∀ v₀ v₁ v₂ v₃, (own2 c fullShare (kLo 0 0 c) 512 (gathA I) ∗ own3 c fullShare (kLo 1 0 c) 512 (gathB I)
            ∗ semVal (sendCell 8 c) 0 ∗ semVal (recvCell 8 c) 0 ∗ semVal (sendCell 9 c) 0 ∗ semVal (recvCell 9 c) 0
            ∗ ow c (owedFrom c [10, 11])) -∗ Q ⟨v₀, v₁, v₂, v₃⟩))
      ⊢ WP c (onBufs k0_part17 c a b d e g x y) Q := by
  simp only [onBufs, k0_part17_eq_skeleton]; unfold k0_part17_skel
  simp only [Prog.lift, Prog.bind_op, Prog.bind_ret, Prog.pure_eq_ret]
  iintro ⟨#HC, Hu, Hw, Hc8, HS8, HR8, Hc9, HS9, HR9, Ho, Hk⟩
  iapply (wp_waitS I K c 8 [10, 11] (b := src8 c) rfl) $$ [Hc8 HS8 Ho]
  · isplitr; · iexact HC
    isplitl [Hc8]; · iexact Hc8
    isplitl [HS8]; · iexact HS8
    iexact Ho
  iintro ⟨Hu', Hy8, Ho⟩
  iapply (wp_waitR I K c 8 [10, 11] (by decide) (b := src8 c) rfl) $$ [HR8 Ho]
  · isplitr; · iexact HC
    isplitl [HR8]; · iexact HR8
    iexact Ho
  iintro ⟨Hgu, Hz8, Ho⟩
  iapply (wp_waitS I K c 9 [10, 11] (b := src9 c) rfl) $$ [Hc9 HS9 Ho]
  · isplitr; · iexact HC
    isplitl [Hc9]; · iexact Hc9
    isplitl [HS9]; · iexact HS9
    iexact Ho
  iintro ⟨Hw', Hy9, Ho⟩
  iapply (wp_waitR I K c 9 [10, 11] (by decide) (b := src9 c) rfl) $$ [HR9 Ho]
  · isplitr; · iexact HC
    isplitl [HR9]; · iexact HR9
    iexact Ho
  iintro ⟨Hgw, Hz9, Ho⟩
  ihave Hu' := (back8 I c) $$ Hu'
  ihave Hu := (lend _).2 $$ [Hu Hu']
  · isplitl [Hu]; · iexact Hu
    iexact Hu'
  ihave Hw' := (back9 I c) $$ Hw'
  ihave Hw := (lend _).2 $$ [Hw Hw']
  · isplitl [Hw]; · iexact Hw
    iexact Hw'
  ihave Hgu := (come8 I c) $$ Hgu
  ihave Hu := (halves (l := (c : Thread nD τ).loc cc0_scratch2) (rows_split1 0 c) (disj1 0 c) _).2 $$ [Hu Hgu]
  · isplitl [Hu]; · iexact Hu
    iexact Hgu
  ihave Hgw := (come9 I c) $$ Hgw
  ihave Hw := (halves (l := (c : Thread nD τ).loc cc0_scratch3) (rows_split1 1 c) (disj1 1 c) _).2 $$ [Hw Hgw]
  · isplitl [Hw]; · iexact Hw
    iexact Hgw
  iapply (wret c)
  iapply Hk
  isplitl [Hu]; · iexact Hu
  isplitl [Hw]; · iexact Hw
  isplitl [Hy8]; · iexact Hy8
  isplitl [Hz8]; · iexact Hz8
  isplitl [Hy9]; · iexact Hy9
  isplitl [Hz9]; · iexact Hz9
  iexact Ho

theorem part18 {Q} (a b d e : BitVec 32) (D : ℕ → ℕ → Prop) :
    iprop(ctx I K ∗ outS I c D ∗ own2 c fullShare (kLo 0 0 c) 512 (gathA I) ∗ own3 c fullShare (kLo 1 0 c) 512 (gathB I)
        ∗ landing (tpeer 10 c) 10 ∗ landing (tpeer 11 c) 11 ∗ toks c 10 ∗ toks c 11 ∗ posS c 10 ∗ ow c (owedFrom c [10, 11])
        ∗ ((outS I c (fun r k => (D r k ∨ box (sLo 0 1 c) 256 0 r k) ∨ box (sLo 1 1 c) 256 512 r k)
            ∗ own2 c fullShare (kLo 0 0 c) 512 (gathA I) ∗ own3 c fullShare.left (kLo 1 0 c) 512 (gathB I)
            ∗ semVal (sendCell 10 c) 0 ∗ credS c 11 ∗ ow c (owedFrom c [])) -∗ Q ⟨⟩))
      ⊢ WP c (onBufs k0_part18 c a b d e) Q := by
  simp only [onBufs, k0_part18_eq_skeleton]; unfold k0_part18_skel
  simp only [Prog.lift, Prog.bind_op, Prog.bind_ret, Prog.pure_eq_ret]
  unfold landing
  iintro ⟨#HC, Hout, Hu, Hw, ⟨%f10, Hl10⟩, ⟨%f11, Hl11⟩, Ht10, Ht11, HS10, Ho, Hk⟩
  ihave ⟨Hu, Hu'⟩ := (lend _).1 $$ Hu
  ihave ⟨Hw, Hw'⟩ := (lend _).1 $$ Hw
  iapply (wp_xfer I K c 10 [11] (dev14_eq c) (src := src10 c) (dst := src10 c)
    (set10 c) (dst10 c) rfl (fd := f10) (fs := gathA I) (sent10 I c)
    ((gath_write (n := tpeer 10 c) (src10 c) (dst10 c) f10 (gathA I)).trans (goes10 I c))) $$ [Hu' Hl10 Ho Ht10]
  · isplitr; · iexact HC
    isplitl [Hu']; · iexact Hu'
    isplitl [Hl10]; · iexact Hl10
    isplitl [Ho]; · iexact Ho
    iexact Ht10
  iintro ⟨Hc10, Ho⟩
  iapply (wp_xfer I K c 11 [] (dev15_eq c) (src := src11 c) (dst := src11 c)
    (set11 c) (dst11 c) rfl (fd := f11) (fs := gathB I) (sent11 I c)
    ((gath_write (n := tpeer 11 c) (src11 c) (dst11 c) f11 (gathB I)).trans (goes11 I c))) $$ [Hw' Hl11 Ho Ht11]
  · isplitr; · iexact HC
    isplitl [Hw']; · iexact Hw'
    isplitl [Hl11]; · iexact Hl11
    isplitl [Ho]; · iexact Ho
    iexact Ht11
  iintro ⟨Hc11, Ho⟩
  iapply (ldr c (.whole cc0_scratch2) 256 (off23A c) (S := rows (kLo 0 0 c) 512) (((setOn_rect _ _).trans (rect_rows (off23A c) rfl _)).le.trans (rows_sub (by have := cut1 0 c; omega))) (gathA I) rfl) $$ Hu; iintro Hu
  iapply (wp_box I c 256 _ (off24_eq c) (outF_left I 256 (off24_eq c) _)) $$ Hout; iintro Hout
  iapply (ldr c (.whole cc0_scratch3) 256 (off23B c) (S := rows (kLo 1 0 c) 512) (((setOn_rect _ _).trans (rect_rows (off23B c) rfl _)).le.trans (rows_sub (by have := cut1 1 c; omega))) (gathB I) rfl) $$ Hw; iintro Hw
  iapply (wp_box I c 256 _ (off25_eq c) (outF_right I 256 (off25_eq c) _)) $$ Hout; iintro Hout
  iapply (wp_waitS I K c 10 [] (b := src10 c) rfl) $$ [Hc10 HS10 Ho]
  · isplitr; · iexact HC
    isplitl [Hc10]; · iexact Hc10
    isplitl [HS10]; · iexact HS10
    iexact Ho
  iintro ⟨Hu', Hy10, Ho⟩
  ihave Hu' := (back10 I c) $$ Hu'
  ihave Hu := (lend _).2 $$ [Hu Hu']
  · isplitl [Hu]; · iexact Hu
    iexact Hu'
  iapply (wret c)
  iapply Hk
  isplitl [Hout]; · iexact Hout
  isplitl [Hu]; · iexact Hu
  isplitl [Hw]; · iexact Hw
  isplitl [Hy10]; · iexact Hy10
  isplitl [Hc11]; · iexact Hc11
  iexact Ho

end Cert.Moe

end
-- ==== Proof.Body.lean ====
/-
# 01_k: the body

The parts in order: what a device starts with, and what it ends with.
-/
module

public import proofs.«01_k».proof.Proof.BodyD

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Bool × Fin 12) → ℕ) (c : Dev nD)

/-- One conjunct per transfer. -/
def all12 (Φ : Fin 12 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11)

/-- What a device holds for transfer `t`: its duties, and its places at the two cells. -/
def ghost (t : Fin 12) : sProp 𝕄 := iprop(toks c t ∗ posS c t ∗ posR c t)

/-- Both semaphores of transfer `t` are at zero. -/
def spent (t : Fin 12) : sProp 𝕄 := iprop(semVal (sendCell t c) 0 ∗ semVal (recvCell t c) 0)

/-- The kernel's inputs as its body finds them. -/
def inputs : sProp 𝕄 :=
  iprop(has c cc0_stg0_0 (I.x c) ∗ has c cc0_stg1_0 (I.rw c) ∗ has c cc0_stg2_0 (I.ix c) ∗ has c cc0_stg3_0 (I.ew c) ∗ has c cc0_stg4_0 (I.sw c))

/-- The kernel's scratch buffers, at whatever they hold. -/
def scratch : sProp 𝕄 :=
  iprop((∃ f, has c cc0_scratch0 f) ∗ (∃ f, has c cc0_scratch1 f) ∗ (∃ f, has c cc0_scratch2 f) ∗ (∃ f, has c cc0_scratch3 f) ∗ (∃ f, has c cc0_scratch4 f) ∗ (∃ f, has c cc0_scratch5 f) ∗ (∃ f, has c cc0_scratch6 f) ∗ (∃ f, has c cc0_scratch7 f) ∗ (∃ f, has c cc0_scratch8 f) ∗ (∃ f, has c cc0_scratch9 f) ∗ (∃ f, has c cc0_scratch10 f) ∗ (∃ f, has c cc0_scratch11 f) ∗ (∃ f, has c cc0_scratch12 f))

def bodyIn : sProp 𝕄 := iprop(ow c (O₀ c) ∗ barG c ∗ all12 (ghost c) ∗ inputs I c ∗ scratch c ∗ (∃ f, has c cc0_stg5_0 f))
def bodyOut : sProp 𝕄 :=
  iprop(ow c 0 ∗ semVal (barCell c) 0 ∗ all12 (spent c) ∗ inputs I c ∗ scratch c ∗ has c cc0_stg5_0 (outF I))

theorem wbind {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := Entails.of_eq (wp_bind _ _ _ p k Q).symm

theorem barPay0 : barPay c 0 ⊢ iprop(landing (F := F) (tpeer 2 c) 2 ∗ landing (tpeer 5 c) 5 ∗ landing (tpeer 7 c) 7 ∗ landing (tpeer 8 c) 8) := by
  unfold barPay; iintro H; iexact H
theorem barPay1 : barPay c 1 ⊢ iprop(landing (F := F) (tpeer 0 c) 0 ∗ landing (tpeer 3 c) 3 ∗ landing (tpeer 9 c) 9 ∗ landing (tpeer 10 c) 10) := by
  unfold barPay; iintro H; iexact H
theorem barPay2 : barPay c 2 ⊢ iprop(landing (F := F) (tpeer 1 c) 1 ∗ landing (tpeer 4 c) 4 ∗ landing (tpeer 6 c) 6 ∗ landing (tpeer 11 c) 11) := by
  unfold barPay; iintro H; iexact H

/-- Two parts of a buffer make the buffer. -/
theorem rejoin {l : Loc nD τ sig} {A B C : Finset (Idx l)} (h : A = B ∪ C) (hd : Disjoint B C) :
    iprop((∃ f, l ↦[B]{fullShare} f) ∗ (∃ f, l ↦[C]{fullShare} f)) ⊢ (iprop(∃ f, l ↦[A]{fullShare} f) : sProp 𝕄) := by
  subst h
  iintro ⟨⟨%f, H1⟩, %g, H2⟩
  iexists C.piecewise g f
  iapply (pointsTo_join hd)
  isplitl [H1]; · iexact H1
  iexact H2

/-- An accumulator falls into the part kept and the part passed on at stage `0`. -/
theorem split0 {l : Loc nD τ sig} {A B C : Finset (Idx l)} (h : A = B ∪ C) (hd : Disjoint B C) :
    (iprop(∃ f, l ↦[A]{fullShare} f) : sProp 𝕄) ⊢ iprop((∃ f, l ↦[B]{fullShare} f) ∗ (∃ f, l ↦[C]{fullShare} f)) := by
  iintro ⟨%f, H⟩
  ihave ⟨H1, H2⟩ := (halves h hd f).1 $$ H
  isplitl [H1]
  · iexists f; iexact H1
  iexists f; iexact H2

/-- The gathered buffer, cut for the doubling stages. -/
theorem split3 {l : Loc nD τ sig} {A B C D E G H : Finset (Idx l)} (h0 : A = B ∪ C) (d0 : Disjoint B C) (h1 : B = D ∪ E) (d1 : Disjoint D E) (h2 : D = G ∪ H)
    (d2 : Disjoint G H) : (iprop(∃ f, l ↦[A]{fullShare} f) : sProp 𝕄)
      ⊢ iprop((∃ f, l ↦[G]{fullShare} f) ∗ (∃ f, l ↦[H]{fullShare} f) ∗ (∃ f, l ↦[E]{fullShare} f) ∗ (∃ f, l ↦[C]{fullShare} f)) := by
  iintro H
  ihave ⟨H, H1⟩ := (split0 h0 d0) $$ H
  ihave ⟨H, H2⟩ := (split0 h1 d1) $$ H
  ihave ⟨H, H3⟩ := (split0 h2 d2) $$ H
  isplitl [H]; · iexact H
  isplitl [H3]; · iexact H3
  isplitl [H2]; · iexact H2
  iexact H1
/-- … and put together again. -/
theorem rejoin3 {l : Loc nD τ sig} {A B C D E G H : Finset (Idx l)} (h0 : A = B ∪ C) (d0 : Disjoint B C) (h1 : B = D ∪ E) (d1 : Disjoint D E) (h2 : D = G ∪ H)
    (d2 : Disjoint G H) : iprop((∃ f, l ↦[G]{fullShare} f) ∗ (∃ f, l ↦[H]{fullShare} f) ∗ (∃ f, l ↦[E]{fullShare} f) ∗ (∃ f, l ↦[C]{fullShare} f))
      ⊢ (iprop(∃ f, l ↦[A]{fullShare} f) : sProp 𝕄) := by
  iintro ⟨H, H3, H2, H1⟩
  ihave H := (rejoin h2 d2) $$ [H H3]
  · isplitl [H]; · iexact H
    iexact H3
  ihave H := (rejoin h1 d1) $$ [H H2]
  · isplitl [H]; · iexact H
    iexact H2
  iapply (rejoin h0 d0)
  isplitl [H]; · iexact H
  iexact H1

theorem whole0 (f : FVec F S1024x512 .bf16) : iprop(own0 c (kLo 0 2 c) 128 f ∗ sendPay I c 4 ∗ sendPay I c 2 ∗ (∃ g, own0 c (sLo 0 0 c) 512 g))
      ⊢ iprop(∃ g, has c cc0_scratch0 g) := by
  unfold sendPay
  iintro ⟨H, H'⟩
  iapply (rejoin3 (l := (c : Thread nD τ).loc cc0_scratch0) (univ_split 0 c) (disj0 0 c) (rows_split1 0 c) (disj1 0 c) (rows_split2 0 c) (disj2 0 c))
  isplitl [H]
  · iexists f; iexact H
  iexact H'

theorem whole1 (f : FVec F S1024x512 .bf16) : iprop(own1 c (kLo 1 2 c) 128 f ∗ sendPay I c 5 ∗ sendPay I c 3 ∗ (∃ g, own1 c (sLo 1 0 c) 512 g))
      ⊢ iprop(∃ g, has c cc0_scratch1 g) := by
  unfold sendPay
  iintro ⟨H, H'⟩
  iapply (rejoin3 (l := (c : Thread nD τ).loc cc0_scratch1) (univ_split 1 c) (disj0 1 c) (rows_split1 1 c) (disj1 1 c) (rows_split2 1 c) (disj2 1 c))
  isplitl [H]
  · iexists f; iexact H
  iexact H'

/-- Every row lies in one of the four parts. -/
theorem rowCase {k0 s0 k1 s1 k2 s2 r : ℕ} (e0 : (k0 = 0 ∧ s0 = 512) ∨ (k0 = 512 ∧ s0 = 0)) (e1 : (k1 = k0 ∧ s1 = k0 + 256) ∨ (k1 = k0 + 256 ∧ s1 = k0))
    (e2 : (k2 = k1 ∧ s2 = k1 + 128) ∨ (k2 = k1 + 128 ∧ s2 = k1)) (h : r < 1024) :
    (k2 ≤ r ∧ r < k2 + 128) ∨ (s2 ≤ r ∧ r < s2 + 128) ∨ (s1 ≤ r ∧ r < s1 + 256) ∨ (s0 ≤ r ∧ r < s0 + 512) := by
  rcases e0 with ⟨rfl, rfl⟩ | ⟨rfl, rfl⟩ <;> rcases e1 with ⟨rfl, rfl⟩ | ⟨rfl, rfl⟩ <;> rcases e2 with ⟨rfl, rfl⟩ | ⟨rfl, rfl⟩ <;> omega

/-- The boxes in the order written. -/
theorem boxCase {a₁ a₂ a₃ a₄ b₁ b₂ b₃ b₄ : Prop} (h : (a₁ ∨ a₂ ∨ a₃ ∨ a₄) ∨ (b₁ ∨ b₂ ∨ b₃ ∨ b₄)) :
    (((((((False ∨ a₁) ∨ b₁) ∨ a₂) ∨ b₂) ∨ a₃) ∨ b₃) ∨ a₄) ∨ b₄ := by
  rcases h with (h | h | h | h) | (h | h | h | h) <;> simp only [h, true_or, or_true]

/-- The eight boxes written are the whole result. -/
theorem covered (i : S1024x1024.Idx) : (fun r k => (((((((False ∨ box (kLo 0 2 c) 128 0 r k) ∨ box (kLo 1 2 c) 128 512 r k) ∨ box (sLo 0 2 c) 128 0 r k) ∨ box (sLo 1 2 c) 128 512 r k) ∨ box (sLo 0 1 c) 256 0 r k) ∨ box (sLo 1 1 c) 256 512 r k) ∨ box (sLo 0 0 c) 512 0 r k) ∨ box (sLo 1 0 c) 512 512 r k) (i 0).val (i 1).val := by
  have h0 : (i 0).val < 1024 := (i 0).isLt
  have h1 : (i 1).val < 1024 := (i 1).isLt
  have row : ∀ h : Fin 2, (kLo h 2 c ≤ (i 0).val ∧ (i 0).val < kLo h 2 c + 128) ∨ (sLo h 2 c ≤ (i 0).val ∧ (i 0).val < sLo h 2 c + 128)
      ∨ (sLo h 1 c ≤ (i 0).val ∧ (i 0).val < sLo h 1 c + 256) ∨ (sLo h 0 c ≤ (i 0).val ∧ (i 0).val < sLo h 0 c + 512) :=
    fun h => rowCase (cut0 h c) (cut1 h c) (cut2 h c) h0
  by_cases hk : (i 1).val < 512
  · have hc : 0 ≤ (i 1).val ∧ (i 1).val < 0 + 512 := ⟨Nat.zero_le _, by rw [Nat.zero_add]; exact hk⟩
    exact boxCase (Or.inl ((row 0).imp (⟨·, hc⟩) (Or.imp (⟨·, hc⟩) (Or.imp (⟨·, hc⟩) (⟨·, hc⟩)))))
  · have hc : 512 ≤ (i 1).val ∧ (i 1).val < 512 + 512 := ⟨Nat.le_of_not_lt hk, h1⟩
    exact boxCase (Or.inr ((row 1).imp (⟨·, hc⟩) (Or.imp (⟨·, hc⟩) (Or.imp (⟨·, hc⟩) (⟨·, hc⟩)))))

theorem part19 {Q} :
    iprop(ctx I K ∗ bodyIn I c ∗ (∀ a b, (ow c 0 ∗ semVal (barCell c) 0 ∗ all12 (spent c) ∗ inputs I c
        ∗ (own3 c fullShare (kLo 1 0 c) 512 (gathB I) ∗ own3 c fullShare (sLo 1 0 c) 512 (gathB I))
        ∗ (own3 c fullShare (kLo 1 0 c) 512 (gathB I) ∗ own3 c fullShare (sLo 1 0 c) 512 (gathB I) -∗ scratch c)
        ∗ outS I c (fun r k => (((((False ∨ box (kLo 0 2 c) 128 0 r k) ∨ box (kLo 1 2 c) 128 512 r k) ∨ box (sLo 0 2 c) 128 0 r k) ∨ box (sLo 1 2 c) 128 512 r k) ∨ box (sLo 0 1 c) 256 0 r k) ∨ box (sLo 1 1 c) 256 512 r k)) -∗ Q ⟨c, a, b, k0_pay41 (cut 512 (sLo 0 0 c) (gathA I))⟩))
      ⊢ WP c (onBufs k0_part19) Q := by
  simp only [onBufs, k0_part19_eq_skeleton]; unfold k0_part19_skel
  simp only [Prog.lift]
  unfold bodyIn scratch inputs all12 ghost
  iintro ⟨#HC, ⟨Ho, Hbar, ⟨⟨T0, S0, R0⟩, ⟨T1, S1, R1⟩, ⟨T2, S2, R2⟩, ⟨T3, S3, R3⟩, ⟨T4, S4, R4⟩, ⟨T5, S5, R5⟩, ⟨T6, S6, R6⟩, ⟨T7, S7, R7⟩, ⟨T8, S8, R8⟩, ⟨T9, S9, R9⟩, ⟨T10, S10, R10⟩, ⟨T11, S11, R11⟩⟩, ⟨Hx, Hr, Hi, He, Hsw⟩, ⟨H0, H1, H2, H3, H4, H5, H6, H7, H8, H9, H10, H11, H12⟩, ⟨%fo, Hout⟩⟩, Hk⟩
  ihave ⟨Hp, Hpx⟩ := (split0 (l := (c : Thread nD τ).loc cc0_scratch0) (univ_split 0 c) (disj0 0 c)) $$ H0
  ihave ⟨Hq, Hqx⟩ := (split0 (l := (c : Thread nD τ).loc cc0_scratch1) (univ_split 1 c) (disj0 1 c)) $$ H1
  ihave ⟨Hu, M6, M8, M10⟩ := (split3 (l := (c : Thread nD τ).loc cc0_scratch2) (univ_split 0 c) (disj0 0 c) (rows_split1 0 c) (disj1 0 c) (rows_split2 0 c) (disj2 0 c)) $$ H2
  ihave ⟨Hw, M7, M9, M11⟩ := (split3 (l := (c : Thread nD τ).loc cc0_scratch3) (univ_split 1 c) (disj0 1 c) (rows_split1 1 c) (disj1 1 c) (rows_split2 1 c) (disj2 1 c)) $$ H3
  ihave Hout : outS I c (fun _ _ => False) $$ [Hout]
  · unfold outS
    iexists fo
    isplitr
    · ipureintro; intro i hi; exact hi.elim
    · iexact Hout
  iapply (wbind c)
  iapply (part1 I K c)
  isplitr; · iexact HC
  isplitl [Ho]; · iexact Ho
  isplitl [Hbar]; · iexact Hbar
  isplitl [H6 H7 H8 H9 H10 H11 M6 M7 M8 M9 M10 M11]
  · unfold lands landing
    isplitl [H7 H11 M7 M8]
    · isplitl [H7]; · iexact H7
      isplitl [H11]; · iexact H11
      isplitl [M7]; · iexact M7
      iexact M8
    isplitl [H6 H10 M9 M10]
    · isplitl [H6]; · iexact H6
      isplitl [H10]; · iexact H10
      isplitl [M9]; · iexact M9
      iexact M10
    isplitl [H9]; · iexact H9
    isplitl [H8]; · iexact H8
    isplitl [M6]; · iexact M6
    iexact M11
  isplitl [Hx]; · iexact Hx
  isplitl [Hr]; · iexact Hr
  isplitl [Hi]; · iexact Hi
  iintro ⟨Ho, Hzb, P0, P1, P2, Hx, Hr, Hi⟩
  try dsimp only
  ihave ⟨L2, L5, L7, L8⟩ := (barPay0 c) $$ P0
  ihave ⟨L0, L3, L9, L10⟩ := (barPay1 c) $$ P1
  ihave ⟨L1, L4, L6, L11⟩ := (barPay2 c) $$ P2
  iapply (wbind c)
  iapply (part2 I c)
  isplitl [H12]; · iexact H12
  iintro H12
  try dsimp only
  iapply (wbind c)
  iapply (part3 I c)
  isplitl [H12]; · iexact H12
  iintro %v95 %v97 %v105 %v106 H12
  try dsimp only
  iapply (wbind c)
  iapply (part4 I c _ _ _)
  isplitl [Hx H12 He]
  · unfold prodIns
    isplitl [Hx]; · iexact Hx
    isplitl [H12]; · iexact H12
    iexact He
  iintro %v113 %v119 %v121 %v129 %v137 Hin
  try dsimp only
  iapply (wbind c)
  iapply (part5 I c _ _)
  isplitl [Hin]; · iexact Hin
  isplitl [H4]; · iexact H4
  iintro ⟨Hin, H4⟩
  try dsimp only
  iapply (wbind c)
  iapply (part6 I c _)
  isplitl [Hin]; · iexact Hin
  iintro Hin
  try dsimp only
  iapply (wbind c)
  iapply (part7 I K c _)
  isplitr; · iexact HC
  isplitl [Hin]; · iexact Hin
  isplitl [H4]; · iexact H4
  isplitl [H5]; · iexact H5
  isplitl [L0]; · iexact L0
  isplitl [L1]; · iexact L1
  isplitl [T0]; · iexact T0
  isplitl [T1]; · iexact T1
  isplitl [Ho]; · iexact Ho
  iintro %v230 %v231 ⟨Hin, C0, C1, Ho⟩
  try dsimp only
  iapply (wbind c)
  iapply (part8 I c _ _)
  isplitl [Hin]; · iexact Hin
  isplitl [Hp]; · iexact Hp
  iintro ⟨Hin, Hp⟩
  try dsimp only
  iapply (wbind c)
  iapply (part9 I K c _)
  isplitr; · iexact HC
  isplitl [Hin]; · iexact Hin
  isplitl [Hq]; · iexact Hq
  isplitl [C0]; · iexact C0
  isplitl [S0]; · iexact S0
  isplitl [Ho]; · iexact Ho
  iintro ⟨Hin, Hq, P0, S0, Ho⟩
  try dsimp only
  iapply (wbind c)
  iapply (part10 I K c _ _ _ _ _)
  isplitr; · iexact HC
  isplitl [Hp]; · iexact Hp
  isplitl [Hq]; · iexact Hq
  isplitl [R0]; · iexact R0
  isplitl [C1]; · iexact C1
  isplitl [S1]; · iexact S1
  isplitl [R1]; · iexact R1
  isplitl [Ho]; · iexact Ho
  iintro %v366 %v367 ⟨Hp, Hq, G0, R0, P1, S1, G1, R1, Ho⟩
  try dsimp only
  unfold prodIns
  icases Hin with ⟨Hx, H12, He⟩
  iapply (wbind c)
  iapply (part11 I K c _ _ _ _)
  isplitr; · iexact HC
  isplitl [Hp]; · iexact Hp
  isplitl [Hq]; · iexact Hq
  isplitl [L2]; · iexact L2
  isplitl [L3]; · iexact L3
  isplitl [T2]; · iexact T2
  isplitl [T3]; · iexact T3
  isplitl [S2]; · iexact S2
  isplitl [R2]; · iexact R2
  isplitl [Hsw]; · iexact Hsw
  isplitl [Hx]; · iexact Hx
  isplitl [Ho]; · iexact Ho
  iintro ⟨Hp, Hq, P2, S2, G2, R2, C3, Hsw, Hx, Ho⟩
  try dsimp only
  iapply (wbind c)
  iapply (part12 I K c _ _ _ _)
  isplitr; · iexact HC
  isplitl [Hp]; · iexact Hp
  isplitl [Hq]; · iexact Hq
  isplitl [G2]; · iexact G2
  isplitl [L4]; · iexact L4
  isplitl [T4]; · iexact T4
  isplitl [C3]; · iexact C3
  isplitl [S3]; · iexact S3
  isplitl [R3]; · iexact R3
  isplitl [Ho]; · iexact Ho
  iintro %v426 %v427 ⟨Hp, Hq, G2, P3, S3, G3, R3, C4, Ho⟩
  try dsimp only
  iapply (wbind c)
  iapply (part13 I K c _ _ _ _)
  isplitr; · iexact HC
  isplitl [Hp]; · iexact Hp
  isplitl [Hq]; · iexact Hq
  isplitl [L5]; · iexact L5
  isplitl [T5]; · iexact T5
  isplitl [C4]; · iexact C4
  isplitl [S4]; · iexact S4
  isplitl [R4]; · iexact R4
  isplitl [S5]; · iexact S5
  isplitl [R5]; · iexact R5
  isplitl [Ho]; · iexact Ho
  iintro ⟨Hp, Hq, P4, S4, G4, R4, P5, S5, G5, R5, Ho⟩
  try dsimp only
  iapply (wbind c)
  iapply (part14 I K c _ _ _)
  isplitr; · iexact HC
  isplitl [Hu]; · iexact Hu
  isplitl [Hw]; · iexact Hw
  isplitl [Hq]; · iexact Hq
  isplitl [G5]; · iexact G5
  isplitl [L6]; · iexact L6
  isplitl [L7]; · iexact L7
  isplitl [T6]; · iexact T6
  isplitl [T7]; · iexact T7
  isplitl [Ho]; · iexact Ho
  iintro %v480 %v481 ⟨Hu, Hw, Hq, G5, C6, C7, Ho⟩
  try dsimp only
  iapply (wbind c)
  iapply (part15 I K c _ _ _ _ _ _)
  isplitr; · iexact HC
  isplitl [Hout]; · iexact Hout
  isplitl [Hu]; · iexact Hu
  isplitl [Hw]; · iexact Hw
  isplitl [C6]; · iexact C6
  isplitl [S6]; · iexact S6
  isplitl [R6]; · iexact R6
  isplitl [C7]; · iexact C7
  isplitl [S7]; · iexact S7
  isplitl [R7]; · iexact R7
  isplitl [Ho]; · iexact Ho
  iintro %v528 %v529 ⟨Hout, Hu, Hw, S6, R6, S7, R7, Ho⟩
  try dsimp only
  iapply (wbind c)
  iapply (part16 I K c _ _ _ _ _ _ _ _)
  isplitr; · iexact HC
  isplitl [Hout]; · iexact Hout
  isplitl [Hu]; · iexact Hu
  isplitl [Hw]; · iexact Hw
  isplitl [L8]; · iexact L8
  isplitl [L9]; · iexact L9
  isplitl [T8]; · iexact T8
  isplitl [T9]; · iexact T9
  isplitl [Ho]; · iexact Ho
  iintro %v534 %v535 ⟨Hout, Hu, Hw, C8, C9, Ho⟩
  try dsimp only
  iapply (wbind c)
  iapply (part17 I K c _ _ _ _ _ _ _)
  isplitr; · iexact HC
  isplitl [Hu]; · iexact Hu
  isplitl [Hw]; · iexact Hw
  isplitl [C8]; · iexact C8
  isplitl [S8]; · iexact S8
  isplitl [R8]; · iexact R8
  isplitl [C9]; · iexact C9
  isplitl [S9]; · iexact S9
  isplitl [R9]; · iexact R9
  isplitl [Ho]; · iexact Ho
  iintro %v584 %v587 %v588 %v589 ⟨Hu, Hw, S8, R8, S9, R9, Ho⟩
  try dsimp only
  iapply (wbind c)
  iapply (part18 I K c _ _ _ _ _)
  isplitr; · iexact HC
  isplitl [Hout]; · iexact Hout
  isplitl [Hu]; · iexact Hu
  isplitl [Hw]; · iexact Hw
  isplitl [L10]; · iexact L10
  isplitl [L11]; · iexact L11
  isplitl [T10]; · iexact T10
  isplitl [T11]; · iexact T11
  isplitl [S10]; · iexact S10
  isplitl [Ho]; · iexact Ho
  iintro ⟨Hout, Hu, Hw, S10, C11, Ho⟩
  try dsimp only
  simp only [Prog.bind_op, Prog.bind_ret, Prog.pure_eq_ret]
  iapply (wp_waitR I K c 10 [] (by decide) (b := src10 c) rfl) $$ [R10 Ho]
  · isplitr; · iexact HC
    isplitl [R10]; · iexact R10
    iexact Ho
  iintro ⟨Gu, R10, Ho⟩
  iapply (wp_waitS I K c 11 [] (b := src11 c) rfl) $$ [C11 S11 Ho]
  · isplitr; · iexact HC
    isplitl [C11]; · iexact C11
    isplitl [S11]; · iexact S11
    iexact Ho
  iintro ⟨Hw', S11, Ho⟩
  ihave Hw' := (back11 I c) $$ Hw'
  ihave Hw := (lend _).2 $$ [Hw Hw']
  · isplitl [Hw]; · iexact Hw
    iexact Hw'
  iapply (wp_waitR I K c 11 [] (by decide) (b := src11 c) rfl) $$ [R11 Ho]
  · isplitr; · iexact HC
    isplitl [R11]; · iexact R11
    iexact Ho
  iintro ⟨Gw, R11, Ho⟩
  ihave Gu := (come10 I c) $$ Gu
  ihave Gw := (come11 I c) $$ Gw
  iapply (ldr c (.whole cc0_scratch2) 512 (off26A c) (S := rows (sLo 0 0 c) 512) ((setOn_rect _ _).trans (rect_rows (off26A c) rfl _)).le (gathA I) rfl) $$ Gu; iintro Gu
  iapply (wret c)
  iapply Hk
  isplitl [Ho]; · iexact Ho
  isplitl [Hzb]; · iexact Hzb
  isplitl [S0 R0 S1 R1 S2 R2 S3 R3 S4 R4 S5 R5 S6 R6 S7 R7 S8 R8 S9 R9 S10 R10 S11 R11]
  · unfold spent
    isplitl [S0 R0]
    · isplitl [S0]; · iexact S0
      iexact R0
    isplitl [S1 R1]
    · isplitl [S1]; · iexact S1
      iexact R1
    isplitl [S2 R2]
    · isplitl [S2]; · iexact S2
      iexact R2
    isplitl [S3 R3]
    · isplitl [S3]; · iexact S3
      iexact R3
    isplitl [S4 R4]
    · isplitl [S4]; · iexact S4
      iexact R4
    isplitl [S5 R5]
    · isplitl [S5]; · iexact S5
      iexact R5
    isplitl [S6 R6]
    · isplitl [S6]; · iexact S6
      iexact R6
    isplitl [S7 R7]
    · isplitl [S7]; · iexact S7
      iexact R7
    isplitl [S8 R8]
    · isplitl [S8]; · iexact S8
      iexact R8
    isplitl [S9 R9]
    · isplitl [S9]; · iexact S9
      iexact R9
    isplitl [S10 R10]
    · isplitl [S10]; · iexact S10
      iexact R10
    isplitl [S11]; · iexact S11
    iexact R11
  isplitl [Hx Hr Hi He Hsw]
  · isplitl [Hx]; · iexact Hx
    isplitl [Hr]; · iexact Hr
    isplitl [Hi]; · iexact Hi
    isplitl [He]; · iexact He
    iexact Hsw
  isplitl [Hw Gw]
  · isplitl [Hw]; · iexact Hw
    iexact Gw
  isplitr [Hout]
  swap
  · iexact Hout
  iintro ⟨Hw, Gw⟩
  isplitl [Hp P4 P2 Hpx]
  · iapply (whole0 I c (acc2A I c))
    isplitl [Hp]; · iexact Hp
    isplitl [P4]; · iexact P4
    isplitl [P2]; · iexact P2
    iexact Hpx
  isplitl [Hq P5 P3 Hqx]
  · iapply (whole1 I c (acc2B I c))
    isplitl [Hq]; · iexact Hq
    isplitl [P5]; · iexact P5
    isplitl [P3]; · iexact P3
    iexact Hqx
  isplitl [Hu Gu]
  · iapply (rejoin (l := (c : Thread nD τ).loc cc0_scratch2) (univ_split 0 c) (disj0 0 c))
    isplitl [Hu]
    · iexists _; iexact Hu
    iexists _; iexact Gu
  isplitl [Hw Gw]
  · iapply (rejoin (l := (c : Thread nD τ).loc cc0_scratch3) (univ_split 1 c) (disj0 1 c))
    isplitl [Hw]
    · iexists _; iexact Hw
    iexists _; iexact Gw
  unfold sendPay
  isplitl [P0]; · iexact P0
  isplitl [P1]; · iexact P1
  isplitl [G0]
  · iexists _; iexact G0
  isplitl [G2]
  · iexists _; iexact G2
  isplitl [G4]
  · iexists _; iexact G4
  isplitl [G1]
  · iexists _; iexact G1
  isplitl [G3]
  · iexists _; iexact G3
  isplitl [G5]
  · iexists _; iexact G5
  iexists _; iexact H12

theorem body {Q} : iprop(ctx I K ∗ bodyIn I c ∗ (bodyOut I c -∗ Q ⟨⟩)) ⊢ WP c (onBufs cc0_body) Q := by
  simp only [onBufs, cc0_body_eq_skeleton]; unfold cc0_body_skel
  simp only [Prog.lift]
  iintro ⟨#HC, Hin, Hk⟩
  iapply (wbind c)
  iapply (part19 I K c)
  isplitr; · iexact HC
  isplitl [Hin]; · iexact Hin
  iintro %a %b ⟨Ho, Hzb, Hz, Hin, ⟨Hw, Gw⟩, Hs, Hout⟩
  try dsimp only
  simp only [Prog.bind_op, Prog.bind_ret, Prog.pure_eq_ret]
  iapply (wp_box I c 512 _ (off27_eq c) (outF_left I 512 (off27_eq c) _)) $$ Hout; iintro Hout
  iapply (ldr c (.whole cc0_scratch3) 512 (off26B c) (S := rows (sLo 1 0 c) 512) ((setOn_rect _ _).trans (rect_rows (off26B c) rfl _)).le (gathB I) rfl) $$ Gw; iintro Gw
  iapply (wp_box I c 512 _ (off28_eq c) (outF_right I 512 (off28_eq c) _)) $$ Hout; iintro Hout
  iapply (wret c)
  iapply Hk
  unfold bodyOut
  isplitl [Ho]; · iexact Ho
  isplitl [Hzb]; · iexact Hzb
  isplitl [Hz]; · iexact Hz
  isplitl [Hin]; · iexact Hin
  isplitl [Hw Gw Hs]
  · iapply Hs
    isplitl [Hw]; · iexact Hw
    iexact Gw
  unfold outS
  icases Hout with ⟨%f, %hf, H⟩
  have e : f = outF I := funext fun i => hf i (covered c i)
  subst e
  iexact H

end Cert.Moe

end
-- ==== Proof.Run.lean ====
/-
# 01_k: the run

From a memory with every counter at zero: the cells' invariants are set up and their tokens handed to the devices that pay them, each
device runs the body, and at the end each device's result holds `outF` of the inputs, the inputs what they held, and every counter is at
zero again.
-/
module

public import proofs.«01_k».proof.Proof.Body
public import proofs.«01_k».proof.Proof.Gen.KernelIdeal.Points
public import Idealize.ShloMosaic.Lib.Pipeline.CollectiveSegs

@[expose] public section

noncomputable section

namespace Cert.Moe

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The memory before the run. -/
def mem₀ : MemSt nD τ sig (Elt F) := ⟨m, fun _ => 0, ρ⟩

/-- The inputs, as the body is given them. -/
def ins : Ins F where
  x c := (win0_0.blk t0_0).view.read (Elt F) (m ((c : Thread nD τ).loc main_arg0))
  rw c := (win0_1.blk t0_0).view.read (Elt F) (m ((c : Thread nD τ).loc main_arg1))
  ix c := (win0_2.blk t0_0).view.read (Elt F) (m ((c : Thread nD τ).loc main_arg2))
  ew c := (win0_3.blk t0_0).view.read (Elt F) (m ((c : Thread nD τ).loc main_arg3))
  sw c := (win0_4.blk t0_0).view.read (Elt F) (m ((c : Thread nD τ).loc main_arg4))

/-- What a device starts with besides its buffers. -/
def start : sProp 𝕄 := iprop(∃ K, ctx (ins m) K ∗ barG c ∗ all12 (ghost c))

/-- Before the body and after it. -/
def Φ₀ : sProp 𝕄 := iprop(start m c ∗ scratch c)
def Φ₁ : sProp 𝕄 := iprop(semVal (barCell c) 0 ∗ all12 (F := F) (spent c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).rw c
    | ⟨2, _⟩ => (ins m).ix c
    | ⟨3, _⟩ => (ins m).ew c
    | ⟨4, _⟩ => (ins m).sw c
    | ⟨5, _⟩ => outF (ins m)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

/-- A buffer holding exactly `X`. -/
abbrev holds (b : Ref sig .tc) (X : b.ty.Contents (Elt F)) : sProp 𝕄 :=
  iprop(∃ f : Buf (Elt F) ((c : Thread nD τ).loc b), ⌜f = X⌝ ∗ has c b f)

theorem owns_holds (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

theorem holds_has {b : Ref sig .tc} {X Y : b.ty.Contents (Elt F)} (h : X = Y) : holds c b X ⊢ has c b Y := by
  iintro ⟨%f, %hf, H⟩
  have e : f = Y := hf.trans h
  subst e; iexact H
theorem has_holds {b : Ref sig .tc} {X : b.ty.Contents (Elt F)} : has c b X ⊢ holds c b X := by
  iintro H; iexists X
  isplitr; · ipureintro; rfl
  iexact H

def obPre : sProp 𝕄 :=
  iprop(Φ₀ m c ∗ (dats m 0 c).owesAt () t0_0.castSucc
    ∗ (∃ d, holds c cc0_stg0_0 ((dats m 0 c).before (0 : Fin 6) t0_0 d)) ∗ (∃ d, holds c cc0_stg1_0 ((dats m 0 c).before (1 : Fin 6) t0_0 d))
    ∗ (∃ d, holds c cc0_stg2_0 ((dats m 0 c).before (2 : Fin 6) t0_0 d)) ∗ (∃ d, holds c cc0_stg3_0 ((dats m 0 c).before (3 : Fin 6) t0_0 d))
    ∗ (∃ d, holds c cc0_stg4_0 ((dats m 0 c).before (4 : Fin 6) t0_0 d)) ∗ (∃ d, holds c cc0_stg5_0 ((dats m 0 c).before (5 : Fin 6) t0_0 d)))
def obPost : sProp 𝕄 :=
  iprop(Φ₁ c ∗ (dats m 0 c).owesAt () t0_0.succ
    ∗ holds c cc0_stg0_0 ((ins m).x c) ∗ holds c cc0_stg1_0 ((ins m).rw c) ∗ holds c cc0_stg2_0 ((ins m).ix c) ∗ holds c cc0_stg3_0 ((ins m).ew c)
    ∗ holds c cc0_stg4_0 ((ins m).sw c) ∗ holds c cc0_stg5_0 (outF (ins m)))

theorem before0 (d) : (dats m 0 c).before (0 : Fin 6) t0_0 d = (ins m).x c := by unfold Dat.before; rw [if_pos (fetch0_0 t0_0)]; rfl
theorem before1 (d) : (dats m 0 c).before (1 : Fin 6) t0_0 d = (ins m).rw c := by unfold Dat.before; rw [if_pos (fetch0_1 t0_0)]; rfl
theorem before2 (d) : (dats m 0 c).before (2 : Fin 6) t0_0 d = (ins m).ix c := by unfold Dat.before; rw [if_pos (fetch0_2 t0_0)]; rfl
theorem before3 (d) : (dats m 0 c).before (3 : Fin 6) t0_0 d = (ins m).ew c := by unfold Dat.before; rw [if_pos (fetch0_3 t0_0)]; rfl
theorem before4 (d) : (dats m 0 c).before (4 : Fin 6) t0_0 d = (ins m).sw c := by unfold Dat.before; rw [if_pos (fetch0_4 t0_0)]; rfl

theorem ob_run : obPre m c ⊢ WP c (onBufs cc0_body) (fun _ => obPost m c) := by
  unfold obPre Φ₀ start
  iintro ⟨⟨⟨%K, #HC, Hb, Hg⟩, Hs⟩, Ho, ⟨%d0, H0⟩, ⟨%d1, H1⟩, ⟨%d2, H2⟩, ⟨%d3, H3⟩, ⟨%d4, H4⟩, ⟨%d5, %f5, -, H5⟩⟩
  unfold Dat.owesAt Pipeline.owesWithin
  icases Ho with ⟨%W, %hW, HO⟩
  rw [show (dats m 0 c).owed t0_0.castSucc = O₀ c from rfl]
  iapply (body (ins m) K c)
  isplitr; · iexact HC
  isplitr []
  · unfold bodyIn ow inputs
    isplitl [HO]; · iexists W; iexact HO
    isplitl [Hb]; · iexact Hb
    isplitl [Hg]; · iexact Hg
    isplitl [H0 H1 H2 H3 H4]
    · isplitl [H0]; · iapply (holds_has c (before0 m c d0)); iexact H0
      isplitl [H1]; · iapply (holds_has c (before1 m c d1)); iexact H1
      isplitl [H2]; · iapply (holds_has c (before2 m c d2)); iexact H2
      isplitl [H3]; · iapply (holds_has c (before3 m c d3)); iexact H3
      iapply (holds_has c (before4 m c d4)); iexact H4
    isplitl [Hs]; · iexact Hs
    iexists f5; iexact H5
  unfold bodyOut ow inputs obPost Φ₁ Dat.owesAt Pipeline.owesWithin
  rw [show (dats m 0 c).owed t0_0.succ = 0 from rfl]
  iintro ⟨⟨%W', HO⟩, Hb, Hz, ⟨H0, H1, H2, H3, H4⟩, Hs, H5⟩
  isplitl [Hb Hz Hs]
  · isplitl [Hb]; · iexact Hb
    isplitl [Hz]; · iexact Hz
    iexact Hs
  isplitl [HO]
  · iexists W'
    isplitr; · ipureintro; exact fun _ _ => Or.inl trivial
    iexact HO
  isplitl [H0]; · iapply (has_holds c); iexact H0
  isplitl [H1]; · iapply (has_holds c); iexact H1
  isplitl [H2]; · iapply (has_holds c); iexact H2
  isplitl [H3]; · iapply (has_holds c); iexact H3
  isplitl [H4]; · iapply (has_holds c); iexact H4
  iapply (has_holds c); iexact H5

set_option maxRecDepth 40000 in
theorem obligation : BodyObligation (dats (F := F) m 0 c) (defs₀ (F := F)) 𝒱₀ () Set.univ := fun t => by
  rw [fin_N0 t]
  rw [bigSep_W0, bigSep_W0]
  simp only [owns_holds]
  exact ob_run m c

/-! ## The launch -/

theorem ownSemFacts : Pipeline.OwnSemFacts cfg0.spec osem := by decide

theorem share_eq (w : Fin cfg0.W) : (dats m 0 c).share w = fullShare := by unfold Dat.share; split <;> rfl

theorem kcell_injective : Function.Injective (kcell : Dev nD × Option (Bool × Fin 12) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The kernel's cells. -/
def cells : Finset (GSem nD τ sig) := Finset.univ.map ⟨kcell, kcell_injective⟩

/-- The duties of the cells: one for each side of a transfer, three for a barrier. -/
abbrev duty : (Dev nD × (Bool × Fin 12)) ⊕ (Dev nD × Fin 3) → GSem nD τ sig × ℕ × Fin 3
  | .inl (c, k) => (kcell (c, some k), 0, 0)
  | .inr (c, d) => (kcell (c, none), 0, d)
theorem duty_injective : Function.Injective duty := by
  rintro (⟨c, k⟩ | ⟨c, d⟩) (⟨c', k'⟩ | ⟨c', d'⟩) h
  · have := kcell_injective (congrArg Prod.fst h); simp_all
  · have := kcell_injective (congrArg Prod.fst h); simp_all
  · have := kcell_injective (congrArg Prod.fst h); simp_all
  · have h1 := kcell_injective (congrArg Prod.fst h)
    have h2 : d = d' := congrArg (fun x : GSem nD τ sig × ℕ × Fin 3 => x.2.2) h
    simp_all
def duties : Finset (GSem nD τ sig × ℕ × Fin 3) := Finset.univ.map ⟨duty, duty_injective⟩

def u₀ : UU := (initOf (Pipeline.cells cfgs cellOf_inj) (Pipeline.launchToks cfgs cellOf_inj), initOf cells duties)

/-- The duties of device `c`'s own cells. -/
def own : sProp 𝕄 :=
  iprop((bigSep Finset.univ fun k : Bool × Fin 12 => dutyTok ER (kcell (c, some k)) 0 0) ∗ bigSep Finset.univ fun d : Fin 3 => dutyTok ER (barCell c) 0 d)

/-- A device's places at its own cells. -/
def places : sProp 𝕄 :=
  bigSep Finset.univ fun k : Option (Bool × Fin 12) => iprop(atPos ER (kcell (c, k)) 0 ∅ 0 ∗ reached ER (kcell (c, k)) 0)

/-- What the launch gives device `c` before the invariants are set up. -/
def given : sProp 𝕄 :=
  iprop((bigSep Finset.univ fun k : Option (Bool × Fin 12) => roundState ER (moeRd (ins m)) (kcell (c, k)) 0) ∗ places c ∗ own c)

theorem fund_cells : BI.own (ER (initOf cells duties)) ⊢ (|==> bigSep Finset.univ (given m) : sProp 𝕄) := by
  have hX (Φ : GSem nD τ sig → sProp 𝕄) :
      bigSep cells Φ = bigSep Finset.univ fun c : Dev nD => bigSep Finset.univ fun k : Option (Bool × Fin 12) => Φ (kcell (c, k)) := by
    unfold cells; rw [bigSep_map, bigSep_univ_prod]; rfl
  have hT : bigSep duties (fun x => (dutyTok ER x.1 x.2.1 x.2.2 : sProp 𝕄)) = bigSep Finset.univ fun c : Dev nD => own c := by
    unfold duties; rw [bigSep_map, bigSep_univ_sum, bigSep_univ_prod, bigSep_univ_prod]
    unfold own; rw [bigSep_sep']; rfl
  iintro HX
  imod (Rounds.fund ER (moeRd (ins m)) cells duties) $$ HX with ⟨Hst, Hr, Hat, Htok⟩
  imodintro
  ihave Hst' := (Entails.of_eq (hX fun g => roundState ER (moeRd (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold given places; simp only [bigSep_sep']
  isplitl [Hst']; · iexact Hst'
  isplitl [Hat' Hr']
  · isplitl [Hat']; · iexact Hat'
    iexact Hr'
  iexact Htok'

/-! ### Sums over a device's own cells -/

theorem both_eq (Φ : Bool → sProp 𝕄) : bigSep Finset.univ Φ = iprop(Φ false ∗ Φ true) := bigSep_univ_eq_bigSepL [false, true] (by decide) (by decide) Φ

theorem bigSep_cells (Φ : Option (Bool × Fin 12) → sProp 𝕄) :
    bigSep Finset.univ Φ = iprop(Φ none ∗ (bigSep Finset.univ fun t => Φ (some (false, t))) ∗ bigSep Finset.univ fun t => Φ (some (true, t))) := by
  have h : (Finset.univ : Finset (Option (Bool × Fin 12))).erase none = Finset.univ.map Function.Embedding.some := by decide
  rw [bigSep_univ_at Φ none, h, bigSep_map, bigSep_univ_prod, both_eq]
  rfl

theorem all12_eq (Φ : Fin 12 → sProp 𝕄) : bigSep Finset.univ Φ = all12 Φ := by
  rw [bigSep_univ_eq_bigSepL allT (by decide) (by decide)]; rfl

theorem fin3_eq (Φ : Fin 3 → sProp 𝕄) : bigSep Finset.univ Φ = iprop(Φ 0 ∗ Φ 1 ∗ Φ 2) := bigSep_univ_eq_bigSepL [0, 1, 2] (by decide) (by decide) Φ

theorem ownSems0_eq : (Pipeline.ownSems0 (Ix := Unit) (Name := ℕ) (U := UU) (Lvl := ℕ) (Val := Elt F) (τ := τ) osem c : sProp 𝕄)
    = bigSep Finset.univ (spent c) := by
  unfold Pipeline.ownSems0 spent; rw [bigSep_univ_prod, both_eq, bigSep_sep']; rfl

theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : Option (Bool × Fin 12) => semVal (kcell (c, k)) 0 : sProp 𝕄) := by
  rw [ownSems0_eq, unscopedSems0_eq, bigSep_cells]
  unfold spent; rw [bigSep_sep']
  iintro ⟨⟨HS, HV⟩, HB⟩
  isplitl [HB]; · iexact HB
  isplitl [HS]; · iexact HS
  iexact HV

/-! ### The invariants set up, the duties dealt out -/

theorem alloc :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun k => iprop(∃ κ : ℕ, cellInv ER (moeRd (ins m)) κ (kcell (c, k)))) ∗ places c ∗ own c) := by
  unfold given
  iintro ⟨Hos, Hus, Hst, Hat, Htok⟩
  ihave Hv := (sems0_eq (F := F) c) $$ [Hos Hus]
  · isplitl [Hos]; · iexact Hos
    iexact Hus
  imod (show iprop((bigSep Finset.univ fun k : Option (Bool × Fin 12) => semVal (kcell (c, k)) 0)
        ∗ bigSep Finset.univ fun k : Option (Bool × Fin 12) => roundState ER (moeRd (ins m)) (kcell (c, k)) 0)
      ⊢ (|={Set.univ}=> bigSep Finset.univ fun k => iprop(∃ κ : ℕ, cellInv ER (moeRd (ins m)) κ (kcell (c, k))) : sProp 𝕄) from by
        rw [← bigSep_sep']
        exact (bigSep_mono fun k _ => (Rounds.body_intro ER (moeRd (ins m)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What every device learns when all the invariants stand. -/
def records (K : Dev nD × Option (Bool × Fin 12) → ℕ) : sProp 𝕄 :=
  iprop(bigSep Finset.univ (fun ck => cellInv ER (moeRd (ins m)) (K ck) (kcell ck)) ∗ bigSep Finset.univ (fun ck => reached ER (kcell ck) 0))
instance records_persistent (K : Dev nD × Option (Bool × Fin 12) → ℕ) : BI.Persistent (records m K) := by unfold records; infer_instance

/-- The duties device `c` pays. -/
def pays : sProp 𝕄 :=
  iprop((dutyTok ER (barCell (par 0 c)) 0 0 ∗ dutyTok ER (barCell (par 1 c)) 0 1 ∗ dutyTok ER (barCell (par 2 c)) 0 2)
    ∗ bigSep Finset.univ (toks (F := F) c))

/-- Its places at its own cells. -/
def seats : sProp 𝕄 :=
  iprop(atPos ER (barCell c) 0 ∅ 0 ∗ (bigSep Finset.univ fun t => atPos ER (sendCell t c) 0 ∅ 0) ∗ bigSep Finset.univ fun t => atPos ER (recvCell t c) 0 ∅ 0)

def dealt : sProp 𝕄 := iprop(∃ K, records m K ∗ seats c ∗ pays c)

/-- Each duty goes to the partner that pays it: as the partners are matched, this is a renumbering of the devices. -/
theorem deal : (bigSep Finset.univ fun c : Dev nD => (own c : sProp 𝕄)) ⊢ bigSep Finset.univ fun c : Dev nD => pays c := by
  have hb (i : Fin 3) : (bigSep Finset.univ fun c : Dev nD => (dutyTok ER (barCell c) 0 i : sProp 𝕄))
      = bigSep Finset.univ fun c : Dev nD => dutyTok ER (barCell (par i c)) 0 i := bigSep_univ_equiv (parEquiv i) _
  have hr : (bigSep Finset.univ fun c : Dev nD => bigSep Finset.univ fun t : Fin 12 => (dutyTok ER (recvCell t c) 0 0 : sProp 𝕄))
      = bigSep Finset.univ fun c : Dev nD => bigSep Finset.univ fun t : Fin 12 => dutyTok ER (recvCell t (tpeer t c)) 0 0 := by
    rw [bigSep_univ_comm, bigSep_univ_comm (fun (c : Dev nD) (t : Fin 12) => (dutyTok ER (recvCell t (tpeer t c)) 0 0 : sProp 𝕄))]
    exact bigSep_congr fun t _ => bigSep_univ_equiv (parEquiv (tm t)) _
  have ho : (fun c : Dev nD => (own c : sProp 𝕄)) = fun c => iprop(((bigSep Finset.univ fun t : Fin 12 => dutyTok ER (sendCell t c) 0 0)
      ∗ (bigSep Finset.univ fun t : Fin 12 => dutyTok ER (recvCell t c) 0 0))
      ∗ (dutyTok ER (barCell c) 0 0 ∗ dutyTok ER (barCell c) 0 1 ∗ dutyTok ER (barCell c) 0 2)) := by
    funext c; unfold own; rw [bigSep_univ_prod, both_eq, fin3_eq]; rfl
  have hp : (fun c : Dev nD => (pays c : sProp 𝕄)) = fun c => iprop((dutyTok ER (barCell (par 0 c)) 0 0 ∗ dutyTok ER (barCell (par 1 c)) 0 1
      ∗ dutyTok ER (barCell (par 2 c)) 0 2)
      ∗ ((bigSep Finset.univ fun t : Fin 12 => dutyTok ER (sendCell t c) 0 0) ∗ (bigSep Finset.univ fun t : Fin 12 => dutyTok ER (recvCell t (tpeer t c)) 0 0))) := by
    funext c; unfold pays toks; rw [bigSep_sep']
  rw [ho, hp]
  simp only [bigSep_sep']
  rw [hb 0, hb 1, hb 2, hr]
  iintro ⟨⟨H1, H2⟩, H3⟩
  isplitl [H3]; · iexact H3
  isplitl [H1]; · iexact H1
  iexact H2

theorem bigSep_know {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem dealt_intro (K : Dev nD × Option (Bool × Fin 12) → ℕ) : iprop(records m K ∗ seats c ∗ pays c) ⊢ dealt m c := by
  unfold dealt; iintro H; iexists K; iexact H

theorem regroup :
    (bigSep Finset.univ fun c : Dev nD => iprop((bigSep Finset.univ fun k => iprop(∃ κ : ℕ, cellInv ER (moeRd (ins m)) κ (kcell (c, k)))) ∗ places c ∗ own c) : sProp 𝕄)
      ⊢ bigSep Finset.univ (dealt m) := by
  have hs : (fun c : Dev nD => (places c : sProp 𝕄)) = fun c => iprop(seats c ∗ bigSep Finset.univ fun k => reached ER (kcell (c, k)) 0) := by
    funext c; unfold places seats; rw [bigSep_sep', bigSep_cells]; rfl
  rw [bigSep_sep', bigSep_sep', ← bigSep_univ_prod (fun ck : Dev nD × Option (Bool × Fin 12) => iprop(∃ κ : ℕ, cellInv ER (moeRd (ins m)) κ (kcell ck))),
    show bigSep Finset.univ (places (F := F)) = _ from congrArg (bigSep Finset.univ) hs, bigSep_sep', ← bigSep_univ_prod (fun ck : Dev nD × Option (Bool × Fin 12) => (reached ER (kcell ck) 0 : sProp 𝕄))]
  iintro ⟨HI, ⟨Hat, #HR⟩, Htok⟩
  ihave HK := (BI.bigSep_exists_pi Finset.univ (fun (ck : Dev nD × Option (Bool × Fin 12)) (κ : ℕ) => (cellInv ER (moeRd (ins m)) κ (kcell ck) : sProp 𝕄))) $$ HI
  icases HK with ⟨%K, #HI⟩
  ihave Hp := (deal (F := F)) $$ Htok
  iapply (bigSep_know (R := records m K) fun c => dealt_intro m c K)
  isplitr
  · unfold records; isplitl; · iexact HI
    iexact HR
  rw [bigSep_sep']
  isplitl [Hat]; · iexact Hat
  iexact Hp

theorem glob : (bigSep Finset.univ fun c => iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ (dealt m) :=
  ((bigSep_mono fun c _ => alloc m c).trans (bigSep_fupd _ _)).trans (BI.fupd_mono (regroup m))

/-! ### What the launch owes -/

theorem bar_ne_recv (t : Fin 12) (c d : Dev nD) : barCell c ≠ recvCell t d := fun h => by have := congrArg Prod.snd h; cases this

theorem bar_at (i : Fin 3) (d c : Dev nD) : tallyAt (barCell (par i d)) () 1 (barCell c) () = if d = par i c then 1 else 0 := by
  rw [tallyAt_apply]
  refine if_congr ⟨fun h => ?_, fun h => ?_⟩ rfl rfl
  · have : c = par i d := congrArg (fun g : GSem nD τ sig => g.1.1) h.1
    rw [this, par_par]
  · rw [h, par_par]; exact ⟨rfl, rfl⟩

theorem owedFrom_bar (d c : Dev nD) : ∀ l : List (Fin 12), owedFrom d l (barCell c) () = 0
  | [] => rfl
  | t :: ts => by
    unfold owedFrom
    rw [Pi.add_apply, Finsupp.add_apply, owedFrom_bar d c ts, tallyAt_ne_cell (bar_ne_recv t _ _), Finsupp.zero_apply, Nat.add_zero]

theorem owed_bar (d c : Dev nD) :
    O₀ d (barCell c) () = (if d = par 2 c then 1 else 0) + (if d = par 1 c then 1 else 0) + (if d = par 0 c then 1 else 0) := by
  unfold O₀
  rw [Pi.add_apply, Finsupp.add_apply, Pi.add_apply, Finsupp.add_apply, Pi.add_apply, Finsupp.add_apply, owedFrom_bar, bar_at, bar_at, bar_at, Nat.zero_add]

theorem recv_at (t' t : Fin 12) (d c : Dev nD) :
    tallyAt (recvCell t' (tpeer t' d)) () (NN t') (recvCell t c) () = if t' = t ∧ d = tpeer t c then NN t else 0 := by
  rw [tallyAt_apply]
  by_cases h : t' = t
  · subst h
    refine if_congr ⟨fun h => ⟨rfl, ?_⟩, fun h => ?_⟩ rfl rfl
    · have : c = tpeer t' d := congrArg (fun g : GSem nD τ sig => g.1.1) h.1
      rw [this]; exact (par_par _ _).symm
    · rw [h.2]; exact ⟨congrArg (recvCell t') (par_par _ _).symm, rfl⟩
  · rw [if_neg, if_neg (fun h' => h h'.1)]
    rintro ⟨h', -⟩
    have e : (c, some (true, t)) = (tpeer t' d, some (true, t')) := kcell_injective h'
    have e2 := congrArg Prod.snd e
    simp only [Option.some.injEq, Prod.mk.injEq] at e2
    exact h e2.2.symm

theorem owedFrom_recv (t : Fin 12) (d c : Dev nD) : ∀ l : List (Fin 12),
    owedFrom d l (recvCell t c) () = l.count t * if d = tpeer t c then NN t else 0
  | [] => by rw [List.count_nil, Nat.zero_mul]; rfl
  | t' :: ts => by
    unfold owedFrom
    rw [Pi.add_apply, Finsupp.add_apply, owedFrom_recv t d c ts, recv_at, List.count_cons, Nat.add_mul]
    congr 1
    by_cases h : t' = t
    · subst h; simp
    · rw [if_neg (fun h' => h h'.1)]; simp [h]

theorem owed_recv (t : Fin 12) (d c : Dev nD) : O₀ d (recvCell t c) () = if d = tpeer t c then NN t else 0 := by
  have h : allT.count t = 1 := by revert t; decide
  unfold O₀
  rw [Pi.add_apply, Finsupp.add_apply, Pi.add_apply, Finsupp.add_apply, Pi.add_apply, Finsupp.add_apply, owedFrom_recv,
    tallyAt_ne_cell (bar_ne_recv t _ _).symm, tallyAt_ne_cell (bar_ne_recv t _ _).symm, tallyAt_ne_cell (bar_ne_recv t _ _).symm, Finsupp.zero_apply, h,
    Nat.one_mul, Nat.add_zero, Nat.add_zero, Nat.add_zero]

theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (par 2 c) fun _ => 1, Finset.sum_ite_eq' Finset.univ (par 1 c) fun _ => 1, Finset.sum_ite_eq' Finset.univ (par 0 c) fun _ => 1,
    if_pos (Finset.mem_univ _), if_pos (Finset.mem_univ _), if_pos (Finset.mem_univ _)]

theorem launch_recv (t : Fin 12) :
    tallyOn (recvCell t c) (launchCredit (Pipeline.owing O₀) 0 (recvCell t c)) = (tallyAt (recvCell t c) () (NN t) : CellTallies nD τ sig Unit) := by
  unfold tallyAt; refine congrArg _ (Finsupp.ext fun u => ?_); cases u
  rw [Pipeline.launchCredit_owing, Finsupp.single_eq_same, Finset.sum_congr rfl fun d _ => owed_recv t d c,
    Finset.sum_ite_eq' Finset.univ (tpeer t c) fun _ => NN t, if_pos (Finset.mem_univ _)]

/-- The receive sides, among the semaphores. -/
def recvLoc : Fin 12 ↪ SemLoc sig :=
  ⟨fun t => .dma (recvSem t), fun t t' h => by
    have := (which_recv t).symm.trans ((congrArg which h).trans (which_recv t'))
    simpa using this⟩

theorem creds : (Pipeline.launchCred O₀ c : sProp 𝕄)
    ⊢ iprop(cred (tallyAt (barCell c) () 3) ∗ bigSep Finset.univ fun t => cred (tallyAt (recvCell t c) () (NN t))) := by
  unfold Pipeline.launchCred
  rw [bigSep_univ_at _ (SemLoc.reg barS), launch_bar]
  refine sep_mono_right ?_
  refine (bigSep_subset (t := Finset.univ.map recvLoc) fun s hs => ?_).trans ?_
  · obtain ⟨t, -, rfl⟩ := Finset.mem_map.mp hs
    exact Finset.mem_erase.mpr ⟨fun h => (by cases h), Finset.mem_univ _⟩
  · rw [bigSep_map]
    exact bigSep_mono fun t _ => Entails.of_eq (congrArg cred (launch_recv c t))

/-! ### Entering and leaving -/

theorem start_intro :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (creds (F := F) c) $$ Hcr
  icases Hc with ⟨HB, HN⟩
  unfold dealt records seats pays
  icases HG with ⟨%K, ⟨HI, HR⟩, ⟨HaB, HaS, HaR⟩, ⟨Hd0, Hd1, Hd2⟩, Htk⟩
  imodintro
  isplitl
  · unfold start ctx barG
    iexists K
    isplitl [HI HR Hlev]
    · isplitl [HI]; · iexact HI
      isplitl [HR]; · iexact HR
      iexact Hlev
    isplitl [HaB HB Hd0 Hd1 Hd2]
    · isplitl [HaB]; · iexact HaB
      isplitl [HB]; · iexact HB
      isplitl [Hd0]; · iexact Hd0
      isplitl [Hd1]; · iexact Hd1
      iexact Hd2
    rw [← all12_eq]
    unfold ghost posS posR
    rw [bigSep_sep', bigSep_sep', bigSep_sep']
    isplitl [Htk]; · iexact Htk
    isplitl [HaS]; · iexact HaS
    isplitl [HaR]; · iexact HaR
    iexact HN
  iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem leave : (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq, all12_eq]
  unfold Φ₁ scratch
  iintro ⟨Hb, Hz, Hr⟩
  isplitl [Hb]; · iexact Hb
  isplitl [Hz]; · iexact Hz
  iexact Hr

theorem stage_low (w : Fin 6) (s : Fin (cfg0.win w).nbuf) : lvs (.dma ((cfg0.win w).sem s)) = 0 := by
  revert s; revert w; decide +kernel

theorem waits : (levAts L lv : sProp 𝕄) ⊢ Pipeline.cellsWaits cfgs (dats m) () 0 c :=
  Pipeline.cellsWaits_intro cfgs (dats m) () 0 c fun w s t =>
    mayWait_stage c _ (stage_low w s) _ (by
      rcases t with ⟨_ | _, ht⟩
      · exact Or.inl rfl
      · exact Or.inr rfl)

/-! ### The run -/

/-- What window `w`'s array holds at the end. -/
def final (w : Fin cfg0.W) : Buf (Elt F) ((cfg0.win w).arr.view.loc (c : Thread nD τ)) := (dats m 0 c).arrAt w cfg0.N

def atEnd : PUnit × MemSt nD τ sig (Elt F) → Prop := fun r =>
  (∀ c : Dev nD, ∀ w : Fin cfg0.W, r.2.mem ((cfg0.win w).arr.view.loc (c : Thread nD τ)) = final m c w) ∧ r.2.sem = fun _ => 0

set_option maxRecDepth 8000 in
theorem run_main : θ_run defs (onTc (τ := τ) (main (F := F))) (mem₀ m ρ) (atEnd m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := given m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# 01_k: the claims that hold at any inputs

What the two kernel programs and the reference leave behind: their arguments unchanged and every counter at zero. The two kernel programs
have one text, so one run serves both.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_routed_KernelIdeal
public import proofs.«01_k».proof.Proof.Gen.Pre_routed_ReferenceIdeal

@[expose] public section

noncomputable section

namespace Cert.Moe

open Cert.KernelIdeal Cert.KernelIdeal.Gen
open Idealize.ShloMosaic Idealize.ShloMosaic.ValueIdx
open Idealize.ShloMosaic.TcCoe
open Idealize.SL.Sem

variable {F : FTy → Type} [FloatOps F]
variable (m : (ℓ : Loc nD τ sig) → Buf (Elt F) ℓ) (ρ : Dev nD → PrngReg) (c : Dev nD)

/-- Each input holds at the end what it held. -/
theorem final0 : final m c 0 = m ((c : Thread nD τ).loc main_arg0) := (dats m 0 c).arrAt_in 0 rfl _
theorem final1 : final m c 1 = m ((c : Thread nD τ).loc main_arg1) := (dats m 0 c).arrAt_in 1 rfl _
theorem final2 : final m c 2 = m ((c : Thread nD τ).loc main_arg2) := (dats m 0 c).arrAt_in 2 rfl _
theorem final3 : final m c 3 = m ((c : Thread nD τ).loc main_arg3) := (dats m 0 c).arrAt_in 3 rfl _
theorem final4 : final m c 4 = m ((c : Thread nD τ).loc main_arg4) := (dats m 0 c).arrAt_in 4 rfl _

/-- The arguments are unchanged and the counters at zero, whatever the float values are. -/
theorem quiet : θ_run defs (onTc (τ := τ) (main (F := F))) ⟨m, fun _ => 0, ρ⟩ (fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)) ∧ r.2.sem = fun _ => 0) :=
  (θ_run defs _ _).mono
    (fun _ h => ⟨fun c => ⟨(h.1 c 0).trans (final0 m c), (h.1 c 1).trans (final1 m c), (h.1 c 2).trans (final2 m c),
      (h.1 c 3).trans (final3 m c), (h.1 c 4).trans (final4 m c)⟩, h.2⟩)
    (run_main m ρ)

set_option maxRecDepth 100000 in
theorem kernel_defs₀ : Cert.Kernel.defs₀ (F := Bits) = defs₀ (F := Bits) := by
  unfold Cert.Kernel.defs₀ defs₀
  congr 1
  funext l a
  rcases l with ⟨_ | n, h⟩
  · rcases a with ⟨t, s⟩
    rfl
  · exact absurd h (Nat.not_lt.2 (Nat.le_add_left _ _))

theorem kernel_defs : Cert.Kernel.defs (F := Bits) = defs (F := Bits) := by
  unfold Cert.Kernel.defs
  rw [kernel_defs₀]
  rfl

theorem frame_kernel : Cert.quiescent_Kernel := by
  intro m ρ _
  rw [kernel_defs]
  exact quiet (F := Bits) m ρ

theorem frame_ideal : Cert.quiescent_KernelIdeal := fun m ρ _ => quiet (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem read0 : (win0_0.blk t0_0).view.read (Elt F) (m ((c : Thread nD τ).loc main_arg0)) = m ((c : Thread nD τ).loc main_arg0) :=
  Memref.read_access_unit_zero (Elt F) main_arg0 (funext fun a => by fin_cases a <;> decide) (fun a => by fin_cases a <;> decide) _
theorem read1 : (win0_1.blk t0_0).view.read (Elt F) (m ((c : Thread nD τ).loc main_arg1)) = m ((c : Thread nD τ).loc main_arg1) :=
  Memref.read_access_unit_zero (Elt F) main_arg1 (funext fun a => by fin_cases a <;> decide) (fun a => by fin_cases a <;> decide) _
theorem read2 : (win0_2.blk t0_0).view.read (Elt F) (m ((c : Thread nD τ).loc main_arg2)) = m ((c : Thread nD τ).loc main_arg2) :=
  Memref.read_access_unit_zero (Elt F) main_arg2 (funext fun a => by fin_cases a <;> decide) (fun a => by fin_cases a <;> decide) _
theorem read3 : (win0_3.blk t0_0).view.read (Elt F) (m ((c : Thread nD τ).loc main_arg3)) = m ((c : Thread nD τ).loc main_arg3) :=
  Memref.read_access_unit_zero (Elt F) main_arg3 (funext fun a => by fin_cases a <;> decide) (fun a => by fin_cases a <;> decide) _
theorem read4 : (win0_4.blk t0_0).view.read (Elt F) (m ((c : Thread nD τ).loc main_arg4)) = m ((c : Thread nD τ).loc main_arg4) :=
  Memref.read_access_unit_zero (Elt F) main_arg4 (funext fun a => by fin_cases a <;> decide) (fun a => by fin_cases a <;> decide) _

/-- The result's one block is the whole array. -/
theorem final5 : final m c 5 = outF (ins m) := by
  have h : (win0_5.blk t0_0).view.read (Elt F) (final m c 5) = outF (ins m) := by
    unfold final
    rw [show cfg0.N = ((0 : Fin 1) : Fin cfg0.N).val + 1 from rfl, (dats m 0 c).arrAt_succ 5 (0 : Fin 1)]
    rw [show (cfg0.win 5).flush (0 : Fin 1) = true from by decide, if_pos rfl]
    exact View.read_write_univ _ _
  exact (Memref.read_access_unit_zero (Elt F) main_v1 (funext fun a => by fin_cases a <;> decide) (fun a => by fin_cases a <;> decide) _).symm.trans h

end Cert.Moe

end
-- ==== Proof.Softmax.lean ====
/-
# 01_k: the router's probabilities over the extended reals

The probability of an expert for a token, written as a quotient of exponentials; that it is a nonnegative number
when the inputs are numbers; and what that is used for: such a factor goes in and out of a sum of products.
-/
module

public import proofs.«01_k».proof.Proof.Contents
public import Idealize.ShloMosaic.Lib.Pointwise

@[expose] public section

noncomputable section

namespace Cert.Moe

open Cert.KernelIdeal
open Idealize.ShloMosaic

variable (x : FVec Ideal S1024x512 .bf16) (w : FVec Ideal S512x32 .bf16)

/-- The score of expert `e` for token `r`. -/
def score (r : Fin 1024) (e : Fin 32) : EReal := ∑ d : Fin 512, (x (ix2 r d) : EReal) * (w (ix2 d e) : EReal)

/-- The greatest score of a token. -/
def top (r : Fin 1024) : EReal := Finset.fold max (Ideal.ofBits .f32 0xFF800000#32) (score x w r) Finset.univ

/-- The probability of expert `e` for token `r`. -/
def prob (r : Fin 1024) (e : Fin 32) : EReal :=
  Ideal.div (Ideal.exp (score x w r e - top x w r)) (∑ e' : Fin 32, Ideal.exp (score x w r e' - top x w r))

/-- An extended real that is neither infinity is a real. -/
theorem real_of {a : EReal} (h : a ≠ ⊥ ∧ a ≠ ⊤) : ∃ t : ℝ, a = (t : EReal) :=
  ⟨a.toReal, (EReal.coe_toReal h.2 h.1).symm⟩

/-- A sum of reals is a real. -/
theorem sum_real {ι : Type} (s : Finset ι) (f : ι → ℝ) : (∑ i ∈ s, (f i : EReal)) = ((∑ i ∈ s, f i : ℝ) : EReal) := by
  classical
  refine Finset.induction_on s (by simp) fun a s ha ih => ?_
  rw [Finset.sum_insert ha, Finset.sum_insert ha, ih, EReal.coe_add]

theorem neg_inf : Ideal.ofBits .f32 0xFF800000#32 = (⊥ : EReal) := by simp [Ideal.ofBits, Ideal.ieee]

/-- Every score is a number when the tokens and the router's weights are. -/
theorem score_real (hx : ∀ i, (x i : EReal) ≠ ⊥ ∧ (x i : EReal) ≠ ⊤) (hw : ∀ i, (w i : EReal) ≠ ⊥ ∧ (w i : EReal) ≠ ⊤) :
    ∃ t : Fin 1024 → Fin 32 → ℝ, ∀ r e, score x w r e = (t r e : EReal) := by
  choose a ha using fun i => real_of (hx i)
  choose b hb using fun i => real_of (hw i)
  refine ⟨fun r e => ∑ d : Fin 512, a (ix2 r d) * b (ix2 d e), fun r e => ?_⟩
  rw [← sum_real]
  exact Finset.sum_congr rfl fun d _ => by rw [ha, hb, EReal.coe_mul]

/-- Every probability is then a nonnegative number. -/
theorem prob_real (hx : ∀ i, (x i : EReal) ≠ ⊥ ∧ (x i : EReal) ≠ ⊤) (hw : ∀ i, (w i : EReal) ≠ ⊥ ∧ (w i : EReal) ≠ ⊤)
    (r : Fin 1024) (e : Fin 32) : 0 ≤ prob x w r e ∧ prob x w r e ≠ ⊤ := by
  obtain ⟨t, ht⟩ := score_real x w hx hw
  have hM : ∃ μ : ℝ, top x w r = (μ : EReal) := by
    refine real_of ⟨?_, ?_⟩
    · refine ne_of_gt (lt_of_lt_of_le (EReal.bot_lt_coe (t r 0)) ?_)
      exact (Finset.le_fold_max _).mpr (Or.inr ⟨0, Finset.mem_univ _, (ht r 0).ge⟩)
    · refine ne_of_lt ((Finset.fold_max_lt _).mpr ⟨?_, fun e' _ => ?_⟩)
      · rw [neg_inf]; exact bot_lt_top
      · rw [ht]; exact EReal.coe_lt_top _
  obtain ⟨μ, hμ⟩ := hM
  have hE : ∀ e', Ideal.exp (score x w r e' - top x w r) = ((Real.exp (t r e' - μ) : ℝ) : EReal) := fun e' => by
    rw [ht, hμ, ← EReal.coe_sub, Ideal.exp_coe]
  have hS : (∑ e' : Fin 32, Real.exp (t r e' - μ)) ≠ 0 := ne_of_gt (Finset.sum_pos (fun _ _ => Real.exp_pos _) ⟨0, Finset.mem_univ _⟩)
  have hp : prob x w r e = ((Real.exp (t r e - μ) * (∑ e' : Fin 32, Real.exp (t r e' - μ))⁻¹ : ℝ) : EReal) := by
    unfold prob
    simp only [hE]
    rw [sum_real]
    unfold Ideal.div
    rw [if_neg (by rw [EReal.coe_eq_zero]; exact hS), EReal.coe_mul, EReal.coe_inv]
  rw [hp]
  exact ⟨EReal.coe_nonneg.mpr (mul_nonneg (Real.exp_pos _).le (inv_nonneg.mpr (Finset.sum_nonneg fun _ _ => (Real.exp_pos _).le))),
    EReal.coe_ne_top _⟩

/-- A nonnegative number goes in and out of a sum. -/
theorem scale_sum {ι : Type} (s : Finset ι) {p : EReal} (h0 : 0 ≤ p) (h1 : p ≠ ⊤) (f : ι → EReal) :
    p * ∑ i ∈ s, f i = ∑ i ∈ s, p * f i := by
  classical
  refine Finset.induction_on s (by simp) fun a s ha ih => ?_
  rw [Finset.sum_insert ha, Finset.sum_insert ha, ← ih, EReal.left_distrib_of_nonneg_of_ne_top h0 h1]

/-- The same, the factor standing between the two factors of each product. -/
theorem scale_mid {ι : Type} (s : Finset ι) {p : EReal} (h0 : 0 ≤ p) (h1 : p ≠ ⊤) (f g : ι → EReal) :
    (∑ i ∈ s, f i * p * g i) = p * ∑ i ∈ s, f i * g i := by
  rw [scale_sum s h0 h1]
  exact Finset.sum_congr rfl fun i _ => by rw [mul_comm (f i) p, mul_assoc]

end Cert.Moe

end
-- ==== Proof.Value.lean ====
/-
# 01_k: the finished rows at an index

Over the extended reals a device's finished row is the sum over all devices of their partial products of that row, and the
shared expert's product: the halving stages add every device's part once.
-/
module

public import proofs.«01_k».proof.Proof.Softmax
public import Idealize.ShloMosaic.Lib.Pointwise.IndexBridge

@[expose] public section

noncomputable section

namespace Cert.Moe

open Cert.KernelIdeal Cert.KernelIdeal.Gen
open Idealize.ShloMosaic

/-! ## The payloads at an index -/

/-- One product at row `i`, column `k`: tokens, coefficients, weights. -/
def prodAt (x : FVec Ideal S512x512 .bf16) (c : FVec Ideal S512x1 .f32) (w : FVec Ideal S1x512x512 .bf16) (i k : Fin 512) : EReal :=
  ∑ d : Fin 512, (x (ix2 i d) : EReal) * (c (ix2 i 0) : EReal) * (w (ix3 0 d k) : EReal)

section payloads
variable (x : FVec Ideal S512x512 .bf16) (c0 c1 c2 c3 : FVec Ideal S512x1 .f32) (w0 w1 w2 w3 : FVec Ideal S1x512x512 .bf16) (i k : Fin 512)

/-- Four of them. -/
def prods : EReal := prodAt x c0 w0 i k + prodAt x c1 w1 i k + prodAt x c2 w2 i k + prodAt x c3 w3 i k

theorem sendA_at : (k0_pay12 (F := Ideal) (k0_pay10 x) (k0_pay11 x c0) w0 c1 w1 c2 w2 c3 w3 (ix2 i k) : EReal) = prods x c0 c1 c2 c3 w0 w1 w2 w3 i k := by
  unfold prods prodAt
  pointwise [k0_pay12, k0_pay10, k0_pay11]
theorem sendB_at : (k0_pay16 (F := Ideal) (k0_pay14 x c0 w0 c1 w1 c2 w2) (k0_pay15 x c3 w3) (ix2 i k) : EReal) = prods x c0 c1 c2 c3 w0 w1 w2 w3 i k := by
  unfold prods prodAt
  pointwise [k0_pay16, k0_pay14, k0_pay15, k0_pay13]
theorem keepA_at : (k0_pay20 (F := Ideal) (k0_pay17 x) (k0_pay18 x c0 w0) (k0_pay19 x c1) w1 c2 w2 c3 w3 (ix2 i k) : EReal) = prods x c0 c1 c2 c3 w0 w1 w2 w3 i k := by
  unfold prods prodAt
  pointwise [k0_pay20, k0_pay17, k0_pay18, k0_pay19]
theorem keepB_at : (k0_pay24 (F := Ideal) (k0_pay21 x) (k0_pay22 x c0) (k0_pay23 w0) c1 w1 c2 w2 c3 w3 (ix2 i k) : EReal) = prods x c0 c1 c2 c3 w0 w1 w2 w3 i k := by
  unfold prods prodAt
  pointwise [k0_pay24, k0_pay21, k0_pay22, k0_pay23]

end payloads

section sums
variable (sw : FVec Ideal S512x1024 .bf16) (x a b : FVec Ideal S128x512 .bf16) (i : Fin 128) (k : Fin 512)

theorem add25_at (a b : FVec Ideal S512x512 .bf16) (i k : Fin 512) : (k0_pay25 (F := Ideal) a b (ix2 i k) : EReal) = (a (ix2 i k) : EReal) + b (ix2 i k) := by
  pointwise [k0_pay25]
theorem add26_at (a b : FVec Ideal S512x512 .bf16) (i k : Fin 512) : (k0_pay26 (F := Ideal) a b (ix2 i k) : EReal) = (a (ix2 i k) : EReal) + b (ix2 i k) := by
  pointwise [k0_pay26]
theorem add30_at (a b : FVec Ideal S256x512 .bf16) (i : Fin 256) (k : Fin 512) : (k0_pay30 (F := Ideal) a b (ix2 i k) : EReal) = (a (ix2 i k) : EReal) + b (ix2 i k) := by
  pointwise [k0_pay30]
theorem add31_at (a b : FVec Ideal S256x512 .bf16) (i : Fin 256) (k : Fin 512) : (k0_pay31 (F := Ideal) a b (ix2 i k) : EReal) = (a (ix2 i k) : EReal) + b (ix2 i k) := by
  pointwise [k0_pay31]
theorem done33_at : (k0_pay33 (F := Ideal) (k0_pay32 (k0_pay28 sw x) a b) (ix2 i k) : EReal)
    = ((a (ix2 i k) : EReal) + b (ix2 i k)) + ∑ d : Fin 512, (x (ix2 i d) : EReal) * sw (ix2 d ⟨k.val, by have := k.isLt; omega⟩) := by
  pointwise [k0_pay33, k0_pay32, k0_pay28, k0_pay27]
theorem done34_at : (k0_pay34 (F := Ideal) (k0_pay29 sw x) a b (ix2 i k) : EReal)
    = ((a (ix2 i k) : EReal) + b (ix2 i k)) + ∑ d : Fin 512, (x (ix2 i d) : EReal) * sw (ix2 d ⟨512 + k.val, by have := k.isLt; omega⟩) := by
  pointwise [k0_pay34, k0_pay29, k0_pay27]

end sums

/-! ## Rows of cut and of put-in buffers -/

theorem put_at {α : Type} {n lo : ℕ} {hn : 0 < n} (w : (⟨2, ![n, 512]⟩ : Shape).Idx → α) {r : Fin 1024} (h0 : lo ≤ r.val)
    (h1 : r.val - lo < n) (k : Fin 512) : put n lo hn w (ix2 r k) = w (ix2 ⟨r.val - lo, h1⟩ k) :=
  put_apply _ (show r.val = lo + (r.val - lo) by omega) rfl

theorem cut_at {α : Type} {n lo : ℕ} (f : S1024x512.Idx → α) {r : Fin 1024} (h0 : lo ≤ r.val) (h1 : r.val - lo < n) (k : Fin 512) :
    cut n lo f (ix2 ⟨r.val - lo, h1⟩ k) = f (ix2 r k) := by
  unfold cut
  congr 1
  refine ix2_ext ?_ rfl
  show (lo + (r.val - lo)) % 1024 = r.val
  have := r.isLt
  rw [Nat.mod_eq_of_lt (by omega)]; omega

/-- What a device keeps up to a stage does not depend on the device's half at a later stage. -/
theorem kLo_later (h : Fin 2) (s t : Fin 3) (c : Dev nD) (hst : s < t) : kLo h s (par (hm h t) c) = kLo h s c := by
  revert hst; revert h s t c; decide +kernel

/-! ## The partial products of a row -/

variable (I : Ins Ideal)

/-- Device `c`'s part of row `r`, column `col`: its four experts' products. -/
def part (c : Dev nD) (r col : Fin 1024) : EReal :=
  ∑ j : Fin 4, ∑ d : Fin 512, (I.x c (ix2 r d) : EReal) * (coefs I c (ix2 r j) : EReal) * (I.ew c (ix3 j d col) : EReal)

/-- The shared expert's product. -/
def shared (c : Dev nD) (r col : Fin 1024) : EReal := ∑ d : Fin 512, (I.x c (ix2 r d) : EReal) * I.sw c (ix2 d col)

/-- A column of the left half, of the right half. -/
abbrev colA (k : Fin 512) : Fin 1024 := ⟨k.val, by have := k.isLt; omega⟩
abbrev colB (k : Fin 512) : Fin 1024 := ⟨512 + k.val, by have := k.isLt; omega⟩

theorem prodAt_row (c : Dev nD) (lo : ℕ) (r : Fin 1024) (h0 : lo ≤ r.val) (h1 : r.val - lo < 512) (off : ℕ) (k : Fin 512) (col : Fin 1024)
    (hc : col.val = off + k.val) (j : Fin 4) :
    prodAt (xcut I c lo) (ccut I c lo j) (ecut I c j off) ⟨r.val - lo, h1⟩ k
      = ∑ d : Fin 512, (I.x c (ix2 r d) : EReal) * (coefs I c (ix2 r j) : EReal) * (I.ew c (ix3 j d col) : EReal) := by
  have hr : (lo + (r.val - lo)) % 1024 = r.val := by
    have := r.isLt
    rw [Nat.mod_eq_of_lt (by omega)]; omega
  have hcol : (off + k.val) % 1024 = col.val := by rw [← hc, Nat.mod_eq_of_lt col.isLt]
  refine Finset.sum_congr rfl fun d _ => congrArg₂ (· * ·) (congrArg₂ (· * ·) (cut_at (I.x c) h0 h1 d) ?_) ?_
  · unfold ccut
    refine congrArg (coefs I c) (ix2_ext ?_ rfl)
    exact hr
  · unfold ecut
    refine congrArg (I.ew c) ?_
    funext a
    match a with
    | ⟨0, _⟩ => rfl
    | ⟨1, _⟩ => rfl
    | ⟨2, _⟩ => exact Fin.ext hcol

theorem prods_row (c : Dev nD) (lo : ℕ) (r : Fin 1024) (h0 : lo ≤ r.val) (h1 : r.val - lo < 512) (off : ℕ) (k : Fin 512) (col : Fin 1024)
    (hc : col.val = off + k.val) :
    prods (xcut I c lo) (ccut I c lo 0) (ccut I c lo 1) (ccut I c lo 2) (ccut I c lo 3) (ecut I c 0 off) (ecut I c 1 off) (ecut I c 2 off)
      (ecut I c 3 off) ⟨r.val - lo, h1⟩ k = part I c r col := by
  unfold prods part
  rw [Fin.sum_univ_four]
  simp only [prodAt_row I c lo r h0 h1 off k col hc]

/-! ## The stages -/

theorem acc1A_at (c : Dev nD) (r : Fin 1024) (k : Fin 512) (h0 : kLo 0 0 c ≤ r.val) (h1 : r.val - kLo 0 0 c < 512) :
    (acc1A I c (ix2 r k) : EReal) = part I c r (colA k) + part I (par 1 c) r (colA k) := by
  have hs : sLo 0 0 (par 1 c) = kLo 0 0 c := (sLo_eq 0 0 (par 1 c)).trans (congrArg (kLo 0 0) (par_par 1 c))
  unfold acc1A
  rw [put_at _ h0 h1]
  refine (add25_at _ _ _ _).trans (congrArg₂ (· + ·) ?_ ?_)
  · exact (keepA_at _ _ _ _ _ _ _ _ _ _ _).trans (prods_row I c _ r h0 h1 0 k _ (Nat.zero_add _).symm)
  · unfold sendA
    rw [hs]
    exact (sendA_at _ _ _ _ _ _ _ _ _ _ _).trans (prods_row I (par 1 c) _ r h0 h1 0 k _ (Nat.zero_add _).symm)

theorem acc1B_at (c : Dev nD) (r : Fin 1024) (k : Fin 512) (h0 : kLo 1 0 c ≤ r.val) (h1 : r.val - kLo 1 0 c < 512) :
    (acc1B I c (ix2 r k) : EReal) = part I c r (colB k) + part I (par 2 c) r (colB k) := by
  have hs : sLo 1 0 (par 2 c) = kLo 1 0 c := (sLo_eq 1 0 (par 2 c)).trans (congrArg (kLo 1 0) (par_par 2 c))
  unfold acc1B
  rw [put_at _ h0 h1]
  refine (add26_at _ _ _ _).trans (congrArg₂ (· + ·) ?_ ?_)
  · exact (keepB_at _ _ _ _ _ _ _ _ _ _ _).trans (prods_row I c _ r h0 h1 512 k _ rfl)
  · unfold sendB
    rw [hs]
    exact (sendB_at _ _ _ _ _ _ _ _ _ _ _).trans (prods_row I (par 2 c) _ r h0 h1 512 k _ rfl)

theorem acc2A_at (c : Dev nD) (r : Fin 1024) (k : Fin 512) (h0 : kLo 0 1 c ≤ r.val) (h1 : r.val - kLo 0 1 c < 256) :
    (acc2A I c (ix2 r k) : EReal) = (acc1A I c (ix2 r k) : EReal) + acc1A I (par 0 c) (ix2 r k) := by
  unfold acc2A
  rw [put_at _ h0 h1]
  exact (add30_at _ _ _ _).trans (congrArg₂ (· + ·) (cut_at _ h0 h1 k) (cut_at _ h0 h1 k))

theorem acc2B_at (c : Dev nD) (r : Fin 1024) (k : Fin 512) (h0 : kLo 1 1 c ≤ r.val) (h1 : r.val - kLo 1 1 c < 256) :
    (acc2B I c (ix2 r k) : EReal) = (acc1B I c (ix2 r k) : EReal) + acc1B I (par 1 c) (ix2 r k) := by
  unfold acc2B
  rw [put_at _ h0 h1]
  exact (add31_at _ _ _ _).trans (congrArg₂ (· + ·) (cut_at _ h0 h1 k) (cut_at _ h0 h1 k))

/-- A sum over the devices, in the order in which the stages add, `i` the partner of the first stage, `j` of the second, `l` of
    the third. -/
theorem sum_stages {i j l : Fin 3} (hd : i ≠ j ∧ i ≠ l ∧ j ≠ l) (f : Dev nD → EReal) (c : Dev nD) :
    ((f c + f (par i c)) + (f (par j c) + f (par i (par j c))))
      + ((f (par l c) + f (par i (par l c))) + (f (par j (par l c)) + f (par i (par j (par l c))))) = ∑ d, f d := by
  have key : (Finset.univ : Finset (Dev nD)).val = {c, par i c, par j c, par i (par j c), par l c, par i (par l c), par j (par l c), par i (par j (par l c))} := by
    revert hd; revert i j l c; decide +kernel
  rw [Finset.sum_eq_multiset_sum, key]
  simp only [Multiset.insert_eq_cons, Multiset.map_cons, Multiset.map_singleton, Multiset.sum_cons, Multiset.sum_singleton, add_assoc]

theorem doneA_at (c : Dev nD) (r : Fin 1024) (k : Fin 512) (h0 : kLo 0 2 c ≤ r.val) (h1 : r.val - kLo 0 2 c < 128) :
    (doneA I c (ix2 ⟨r.val - kLo 0 2 c, h1⟩ k) : EReal) = (∑ d, part I d r (colA k)) + shared I c r (colA k) := by
  have e20 := kLo_later 0 0 2 c (by decide)
  have e21 := kLo_later 0 1 2 c (by decide)
  have e10 := kLo_later 0 0 1 c (by decide)
  have f10 := kLo_later 0 0 1 (par 2 c) (by decide)
  change kLo 0 0 (par 2 c) = _ at e20
  change kLo 0 1 (par 2 c) = _ at e21
  change kLo 0 0 (par 0 c) = _ at e10
  change kLo 0 0 (par 0 (par 2 c)) = _ at f10
  have g1 := cut1 0 c
  have g2 := cut2 0 c
  refine (done33_at _ _ _ _ _ _).trans (congrArg₂ (· + ·) ?_ ?_)
  · unfold got2A
    rw [cut_at _ h0 h1, cut_at _ h0 h1, acc2A_at I c r k (by omega) (by omega), acc2A_at I (par 2 c) r k (by omega) (by omega),
      acc1A_at I c r k (by omega) (by omega), acc1A_at I (par 0 c) r k (by omega) (by omega),
      acc1A_at I (par 2 c) r k (by omega) (by omega), acc1A_at I (par 0 (par 2 c)) r k (by omega) (by omega)]
    exact sum_stages (i := 1) (j := 0) (l := 2) (by decide) (fun d => part I d r (colA k)) c
  · exact Finset.sum_congr rfl fun d _ => congrArg₂ (· * ·) (cut_at _ h0 h1 d) rfl

theorem doneB_at (c : Dev nD) (r : Fin 1024) (k : Fin 512) (h0 : kLo 1 2 c ≤ r.val) (h1 : r.val - kLo 1 2 c < 128) :
    (doneB I c (ix2 ⟨r.val - kLo 1 2 c, h1⟩ k) : EReal) = (∑ d, part I d r (colB k)) + shared I c r (colB k) := by
  have e20 := kLo_later 1 0 2 c (by decide)
  have e21 := kLo_later 1 1 2 c (by decide)
  have e10 := kLo_later 1 0 1 c (by decide)
  have f10 := kLo_later 1 0 1 (par 0 c) (by decide)
  change kLo 1 0 (par 0 c) = _ at e20
  change kLo 1 1 (par 0 c) = _ at e21
  change kLo 1 0 (par 1 c) = _ at e10
  change kLo 1 0 (par 1 (par 0 c)) = _ at f10
  have g1 := cut1 1 c
  have g2 := cut2 1 c
  refine (done34_at _ _ _ _ _ _).trans (congrArg₂ (· + ·) ?_ ?_)
  · unfold got2B
    rw [cut_at _ h0 h1, cut_at _ h0 h1, acc2B_at I c r k (by omega) (by omega), acc2B_at I (par 0 c) r k (by omega) (by omega),
      acc1B_at I c r k (by omega) (by omega), acc1B_at I (par 1 c) r k (by omega) (by omega),
      acc1B_at I (par 0 c) r k (by omega) (by omega), acc1B_at I (par 1 (par 0 c)) r k (by omega) (by omega)]
    exact sum_stages (i := 2) (j := 1) (l := 0) (by decide) (fun d => part I d r (colB k)) c
  · exact Finset.sum_congr rfl fun d _ => congrArg₂ (· * ·) (cut_at _ h0 h1 d) rfl

/-! ## The result -/

theorem gathA_at (r : Fin 1024) (k : Fin 512) : ∃ c, (gathA I (ix2 r k) : EReal) = (∑ d, part I d r (colA k)) + shared I c r (colA k) := by
  have hlt := r.isLt
  have ho := kLo_owner 0 ⟨r.val / 128, by omega⟩
  change _ = 128 * (r.val / 128) at ho
  refine ⟨owner 0 ⟨r.val / 128, by omega⟩, ?_⟩
  rw [gathA_own I (owner 0 ⟨r.val / 128, by omega⟩) (ix2 r k)
    (mem_rows.mpr ⟨by show _ ≤ r.val; omega, by show r.val < _; omega⟩), put_at _ (by omega) (by omega)]
  exact doneA_at I _ r k (by omega) (by omega)

theorem gathB_at (r : Fin 1024) (k : Fin 512) : ∃ c, (gathB I (ix2 r k) : EReal) = (∑ d, part I d r (colB k)) + shared I c r (colB k) := by
  have hlt := r.isLt
  have ho := kLo_owner 1 ⟨r.val / 128, by omega⟩
  change _ = 128 * (r.val / 128) at ho
  refine ⟨owner 1 ⟨r.val / 128, by omega⟩, ?_⟩
  rw [gathB_own I (owner 1 ⟨r.val / 128, by omega⟩) (ix2 r k)
    (mem_rows.mpr ⟨by show _ ≤ r.val; omega, by show r.val < _; omega⟩), put_at _ (by omega) (by omega)]
  exact doneB_at I _ r k (by omega) (by omega)

/-- The kernel's result at row `r`, column `col`. -/
theorem outF_at (r col : Fin 1024) : ∃ c, (outF I (ix2 r col) : EReal) = (∑ d, part I d r col) + shared I c r col := by
  have hlt := col.isLt
  unfold outF
  by_cases h : col.val < 512
  · obtain ⟨c, hc⟩ := gathA_at I r ⟨col.val, h⟩
    refine ⟨c, ?_⟩
    rw [dif_pos (show ((ix2 r col : S1024x1024.Idx) 1).val < 512 from h)]
    exact (congrArg (gathA I) (ix2_ext rfl rfl)).trans hc
  · obtain ⟨c, hc⟩ := gathB_at I r ⟨col.val - 512, by omega⟩
    refine ⟨c, ?_⟩
    rw [dif_neg (show ¬ ((ix2 r col : S1024x1024.Idx) 1).val < 512 from h)]
    have e : colB ⟨col.val - 512, by omega⟩ = col := Fin.ext (by show 512 + (col.val - 512) = col.val; omega)
    rw [e] at hc
    exact (congrArg (gathB I) (ix2_ext rfl rfl)).trans hc

end Cert.Moe

end
-- ==== Proof.Gather.lean ====
/-
# 01_k: the reference's two lookups, read at an index

Each row's probability is looked up at the expert the row goes to, and so is that expert's weight matrix.  Where the
expert's number is in range, the lookup reads it.
-/
module

public import proofs.«01_k».proof.Proof.Gen.ReferenceIdeal
public import Idealize.ShloMosaic.Lib.Pointwise

@[expose] public section

noncomputable section

namespace Cert.Moe

open Cert.ReferenceIdeal Cert.ReferenceIdeal.Gen
open Idealize.ShloMosaic

/-- A word below 32, read signed. -/
theorem signed_small {v : BitVec 32} (h : v.toNat < 32) : v.toInt.toNat = v.toNat := by
  rw [BitVec.toInt_eq_toNat_of_lt (by omega)]; rfl

/-- The lookup of a probability along a row. -/
abbrev lookP : GatherDims S1024x32 S1024x1x1 S1024x1 := gather_S1024x32_S1024x1x1_S1024x1_n_1_0_0_1_2_11
/-- The lookup of an expert's weights. -/
abbrev lookW : GatherDims S32x512x1024 S1024x1 S1024x512x1024 := gather_S32x512x1024_S1024x1_S1024x512x1024_12_0_n_n_0_1_15121024

theorem look_prob {α : Type} (p : S1024x32.Idx → α) (idx : IVec S1024x1x1 32) (r : Fin 1024) (g : Fin 32)
    (hg : (idx (ix3 r 0 0)).toNat = g.val) : Host.gather lookP p idx (ix2 r 0) = p (ix2 r g) := by
  unfold Host.gather
  congr 1
  have key : ∀ a : Fin 2, ((lookP.start (ix2 r 0) idx a + lookP.batchCoord (ix2 r 0) a + lookP.offCoord (ix2 r 0) a)) = (ix2 r g a).val := by
    intro a
    fin_cases a
    · rw [GatherDims.start_batching _ _ _ _ (by decide), GatherDims.offCoord_eq_zero _ _ _ (by decide)]
      rw [Nat.zero_add, Nat.add_zero]
      unfold GatherDims.batchCoord
      rw [dif_pos (by decide)]
      rfl
    · rw [GatherDims.batchCoord_eq_zero _ _ _ (by decide), GatherDims.offCoord_eq_zero _ _ _ (by decide)]
      rw [Nat.add_zero]
      unfold GatherDims.start
      rw [dif_pos (by decide)]
      have hi : lookP.siIdx (ix2 r 0) ⟨List.idxOf (1 : Fin 2) lookP.startIndexMap, by decide⟩ = ix3 r 0 0 := by
        funext b
        match b with
        | ⟨0, _⟩ => rfl
        | ⟨1, _⟩ => rfl
        | ⟨2, _⟩ => rfl
      have h32 : (idx (ix3 r 0 0)).toNat < 32 := hg ▸ g.isLt
      refine (congrArg (fun k => min (idx k).toInt.toNat 31) hi).trans ?_
      show min (idx (ix3 r 0 0)).toInt.toNat 31 = g.val
      rw [signed_small h32]; omega
  funext a
  exact Fin.ext (key a)

theorem look_expert {α : Type} (p : S32x512x1024.Idx → α) (idx : IVec S1024x1 32) (r : Fin 1024) (d : Fin 512) (col : Fin 1024)
    (g : Fin 32) (hg : (idx (ix2 r 0)).toNat = g.val) : Host.gather lookW p idx (ix3 r d col) = p (ix3 g d col) := by
  unfold Host.gather
  congr 1
  have key : ∀ a : Fin 3, ((lookW.start (ix3 r d col) idx a + lookW.batchCoord (ix3 r d col) a + lookW.offCoord (ix3 r d col) a))
      = (ix3 g d col a).val := by
    intro a
    rw [GatherDims.batchCoord_eq_zero _ _ _ (by simp [lookW, gather_S32x512x1024_S1024x1_S1024x512x1024_12_0_n_n_0_1_15121024])]
    fin_cases a
    · rw [GatherDims.offCoord_eq_zero _ _ _ (by decide)]
      rw [Nat.add_zero]
      unfold GatherDims.start
      rw [dif_pos (by decide)]
      have hi : lookW.siIdx (ix3 r d col) ⟨List.idxOf (0 : Fin 3) lookW.startIndexMap, by decide⟩ = ix2 r 0 := by
        funext b
        match b with
        | ⟨0, _⟩ => rfl
        | ⟨1, _⟩ => rfl
      have h32 : (idx (ix2 r 0)).toNat < 32 := hg ▸ g.isLt
      refine (congrArg (fun k => min (idx k).toInt.toNat 31) hi).trans ?_
      show min (idx (ix2 r 0)).toInt.toNat 31 = g.val
      rw [signed_small h32]; omega
    · unfold GatherDims.start GatherDims.offCoord
      rw [dif_neg (by decide), dif_pos (by decide)]
      show 0 + 0 + d.val = d.val
      omega
    · unfold GatherDims.start GatherDims.offCoord
      rw [dif_neg (by decide), dif_pos (by decide)]
      show 0 + 0 + col.val = col.val
      omega
  funext a
  exact Fin.ext (key a)

end Cert.Moe

end
-- ==== Proof.Ref.lean ====
/-
# 01_k: the reference's result at an index

At every token and column: the shared expert's product, and the product with the expert the token goes to, scaled by that
expert's probability.
-/
module

public import proofs.«01_k».proof.Proof.Gather
public import proofs.«01_k».proof.Proof.Softmax
public import proofs.«01_k».proof.Proof.Gen.ReferenceIdeal.Run
public import Idealize.ShloMosaic.Lib.ReduceAll
public import Idealize.ShloMosaic.Lib.Affine

@[expose] public section

noncomputable section

namespace Cert.Moe

open Cert.ReferenceIdeal Cert.ReferenceIdeal.Gen
open Idealize.ShloMosaic
open Idealize.ShloMosaic.TcCoe

/-- The result at token `r` and column `col`, when the token goes to expert `g`. -/
def answer (x : FVec Ideal S1024x512 .bf16) (rw : FVec Ideal S512x32 .bf16) (W : FVec Ideal S32x512x1024 .bf16)
    (sw : FVec Ideal S512x1024 .bf16) (g : Fin 32) (r : Fin 1024) (col : Fin 1024) : EReal :=
  (∑ d : Fin 512, (x (ix2 r d) : EReal) * (sw (ix2 d col) : EReal))
    + prob x rw r g * ∑ d : Fin 512, (x (ix2 r d) : EReal) * (W (ix3 g d col) : EReal)

theorem signed_of_small {v : BitVec 32} (h : v.toNat < 32) : v.toInt = v.toNat := BitVec.toInt_eq_toNat_of_lt (by omega)

/-- A word below 32 is not wrapped, … -/
theorem wrap_small {v : BitVec 32} (h : v.toNat < 32) :
    Scalar.select (IntOp.cmpi .slt v 0#32) (IntOp.addi v 32#32) v = v := by
  have hn : IntOp.cmpi .slt v 0#32 ≠ 1#1 := by
    rw [Ne, IntOp.cmpi_slt, signed_of_small h]
    exact not_lt.mpr (Int.natCast_nonneg _)
  unfold Scalar.select
  exact if_neg hn

/-- … and it is in range. -/
theorem range_small {v : BitVec 32} (h : v.toNat < 32) :
    IntOp.andi (IntOp.cmpi .sge v 0#32) (IntOp.cmpi .sle v 31#32) = 1#1 := by
  rw [IntOp.andi_eq_one, IntOp.cmpi_sge, IntOp.cmpi_sle, signed_of_small h]
  refine ⟨Int.natCast_nonneg _, ?_⟩
  show (v.toNat : ℤ) ≤ 31
  omega

/-- An and over one entry, which is one. -/
theorem fold_one (f : Fin 1 → BitVec 1) (h : f 0 = 1#1) : Finset.fold IntOp.andi 1#1 f Finset.univ = 1#1 := by
  rw [Finset.univ_unique, Finset.fold_singleton]
  show IntOp.andi (f 0) 1#1 = 1#1
  rw [h]; rfl

theorem reference_apply (m : (ℓ : Loc nD τ sig) → Buf (Elt Ideal) ℓ) (r : Fin 1024) (col : Fin 1024) (g : Fin 32)
    (hg : ((m (((0 : Dev nD) : Thread nD τ).loc main_arg2) : IVec S1024x1 32) (ix2 r 0)).toNat = g.val) :
    (Value.res_out0 (F := Ideal) m 0 : FVec Ideal S1024x1024 .f32) (ix2 r col)
      = answer (m (((0 : Dev nD) : Thread nD τ).loc main_arg0)) (m (((0 : Dev nD) : Thread nD τ).loc main_arg1))
          (m (((0 : Dev nD) : Thread nD τ).loc main_arg3)) (m (((0 : Dev nD) : Thread nD τ).loc main_arg4)) g r col := by
  revert hg
  unfold Value.res_out0 Value.res_main_v21
  generalize m (((0 : Dev nD).tc : Thread nD τ).loc main_arg0) = x
  generalize m (((0 : Dev nD).tc : Thread nD τ).loc main_arg1) = rw
  generalize m (((0 : Dev nD).tc : Thread nD τ).loc main_arg2) = ix
  generalize m (((0 : Dev nD).tc : Thread nD τ).loc main_arg3) = ew
  generalize m (((0 : Dev nD).tc : Thread nD τ).loc main_arg4) = sw
  intro hg
  have h32 : (ix (ix2 r 0) : BitVec 32).toNat < 32 := hg ▸ g.isLt
  pointwise
  have hin : IntOp.andi (IntOp.cmpi .sge (Scalar.select (IntOp.cmpi .slt (ix (ix2 r 0)) 0#32) (IntOp.addi (ix (ix2 r 0)) 32#32) (ix (ix2 r 0))) 0#32)
      (IntOp.cmpi .sle (Scalar.select (IntOp.cmpi .slt (ix (ix2 r 0)) 0#32) (IntOp.addi (ix (ix2 r 0)) 32#32) (ix (ix2 r 0))) 31#32) = 1#1 := by
    rw [wrap_small h32]; exact range_small h32
  unfold answer
  refine congrArg₂ (· + ·) rfl (congrArg₂ (· * ·) ?_ (Finset.sum_congr rfl fun d _ => congrArg₂ (· * ·) rfl ?_))
  · rw [fold_one _ hin]
    refine (if_pos rfl).trans ?_
    rw [look_prob (g := g) (hg := ?_)]
    · unfold prob top score
      pointwise
    · pointwise
      rw [wrap_small h32]; exact hg
  · rw [fold_one _ hin]
    refine (if_pos rfl).trans ?_
    rw [look_expert (g := g) (hg := ?_)]
    · pointwise
    · pointwise
      rw [wrap_small h32]; exact hg

end Cert.Moe

end
-- ==== Proof.Match.lean ====
/-
# 01_k: the devices' parts against the reference

Every token goes to one expert, which one device holds: of all devices' parts of a row, only that expert's product is not zero,
and it is the product the reference scales by the expert's probability.
-/
module

public import proofs.«01_k».proof.Proof.Value
public import proofs.«01_k».proof.Proof.Ref

@[expose] public section

noncomputable section

namespace Cert.Moe

open Cert.KernelIdeal Cert.KernelIdeal.Gen
open Idealize.ShloMosaic

/-! ## The coefficients -/

/-- The number of a device's `j`-th expert as a word. -/
theorem expert_word (c : Dev nD) (j : Fin 4) :
    IntOp.addi (IntOp.muli (word c) 4#32) (BitVec.ofNat 32 j.val) = BitVec.ofNat 32 (4 * c.val + j.val) := by
  revert c j; decide +kernel

/-- One of 32 numbers picked out by comparing words. -/
theorem pick (p : Fin 32 → EReal) (v : BitVec 32) (g n : Fin 32) (hg : v.toNat = g.val) :
    Scalar.select (IntOp.cmpi .eq v (BitVec.ofNat 32 n.val))
        (∑ e : Fin 32, Scalar.select (IntOp.cmpi .eq (BitVec.ofNat 32 e.val) (BitVec.ofNat 32 n.val)) (p e) (0 : EReal)) 0
      = if g = n then p g else 0 := by
  have small : ∀ {a b : Fin 32}, BitVec.ofNat 32 a.val = BitVec.ofNat 32 b.val → a = b := fun {a b} h => by
    have := congrArg BitVec.toNat h
    rw [BitVec.toNat_ofNat, BitVec.toNat_ofNat, Nat.mod_eq_of_lt (by have := a.isLt; omega), Nat.mod_eq_of_lt (by have := b.isLt; omega)] at this
    exact Fin.ext this
  have hv : v = BitVec.ofNat 32 g.val := by rw [← hg, BitVec.ofNat_toNat, BitVec.setWidth_eq]
  unfold Scalar.select
  by_cases h : g = n
  · subst h
    refine (if_pos (IntOp.cmpi_eq.mpr hv)).trans ?_
    rw [if_pos rfl, Finset.sum_eq_single g]
    · exact if_pos (IntOp.cmpi_eq.mpr rfl)
    · intro e _ hne
      exact if_neg fun he => hne (small (IntOp.cmpi_eq.mp he))
    · exact fun hn => absurd (Finset.mem_univ _) hn
  · refine (if_neg fun he => h (small (hv.symm.trans (IntOp.cmpi_eq.mp he)))).trans ?_
    rw [if_neg h]

variable (I : Ins Ideal)

theorem probs_at (c : Dev nD) (r : Fin 1024) (e : Fin 32) : (probs I c (ix2 r e) : EReal) = prob (I.x c) (I.rw c) r e := by
  unfold prob top score
  pointwise [k0_pay2]

/-- The expert of a device, numbered among all. -/
def num (c : Dev nD) (j : Fin 4) : Fin 32 := ⟨4 * c.val + j.val, by have : c.val < 8 := c.isLt; have := j.isLt; omega⟩

theorem coefs_at (c : Dev nD) (r : Fin 1024) (j : Fin 4) (g : Fin 32) (hg : (I.ix c (ix2 r 0) : BitVec 32).toNat = g.val) :
    (coefs I c (ix2 r j) : EReal) = if g = num c j then prob (I.x c) (I.rw c) r g else 0 := by
  have hp := pick (fun e => probs I c (ix2 r e)) (I.ix c (ix2 r 0)) g (num c j) hg
  have hw : BitVec.ofNat 32 (num c j).val = IntOp.addi (IntOp.muli (word c) 4#32) (BitVec.ofNat 32 j.val) := (expert_word c j).symm
  rw [hw] at hp
  rw [← probs_at]
  refine Eq.trans ?_ hp
  have hone : ∀ b : FVec Ideal S1024x1 .f32, b (ValueIdx.ix2 (n0 := 1024) (n1 := 1) r 0) = b (ix2 r 0) := fun b => by rw [ix2_eq_valueIdx]
  fin_cases j
  · refine (hone (coef0 I c)).trans ?_
    unfold coef0
    generalize probs I c = p
    generalize word c = v
    pointwise [k0_pay4, k0_pay3]
    rfl
  · refine (hone (coef1 I c)).trans ?_
    unfold coef1
    generalize probs I c = p
    generalize word c = v
    pointwise [k0_pay5, k0_pay3]
    rfl
  · refine (hone (coef2 I c)).trans ?_
    unfold coef2
    generalize probs I c = p
    generalize word c = v
    pointwise [k0_pay8, k0_pay6, k0_pay7, k0_pay3]
    rfl
  · refine (hone (coef3 I c)).trans ?_
    unfold coef3
    generalize probs I c = p
    generalize word c = v
    pointwise [k0_pay9, k0_pay3]
    rfl

/-! ## The parts added up -/

/-- A sum over a device's experts and over the devices, of which one term is not zero. -/
theorem sum_one (g : Fin 32) (f : Fin 32 → EReal) (h : ∀ e, g ≠ e → f e = 0) : (∑ c : Dev nD, ∑ j : Fin 4, f (num c j)) = f g := by
  have hlt := g.isLt
  have hc : g.val / 4 < nD := by show g.val / 4 < 8; omega
  have hn : num ⟨g.val / 4, hc⟩ ⟨g.val % 4, Nat.mod_lt _ (by decide)⟩ = g := Fin.ext (by show 4 * (g.val / 4) + g.val % 4 = g.val; omega)
  rw [Finset.sum_eq_single (⟨g.val / 4, hc⟩ : Dev nD), Finset.sum_eq_single (⟨g.val % 4, Nat.mod_lt _ (by decide)⟩ : Fin 4), hn]
  · intro j _ hne
    refine h _ fun he => hne (Fin.ext ?_)
    have := congrArg Fin.val he
    change g.val = 4 * (g.val / 4) + j.val at this
    show j.val = g.val % 4
    omega
  · exact fun hm => absurd (Finset.mem_univ _) hm
  · intro c _ hne
    refine Finset.sum_eq_zero fun j _ => h _ fun he => hne (Fin.ext ?_)
    have := congrArg Fin.val he
    change g.val = 4 * c.val + j.val at this
    have := j.isLt
    show c.val = g.val / 4
    omega
  · exact fun hm => absurd (Finset.mem_univ _) hm

section match_reference

variable (x : FVec Ideal S1024x512 .bf16) (rw : FVec Ideal S512x32 .bf16) (ix : IVec S1024x1 32)
  (W : FVec Ideal Cert.ReferenceIdeal.S32x512x1024 .bf16) (sw : FVec Ideal S512x1024 .bf16)

theorem outF_answer (hx : ∀ c, I.x c = x) (hrw : ∀ c, I.rw c = rw) (hix : ∀ c, I.ix c = ix)
    (hew : ∀ c j d col, (I.ew c (ix3 j d col) : EReal) = W (ix3 (num c j) d col)) (hsw : ∀ c, I.sw c = sw)
    (fx : ∀ i, (x i : EReal) ≠ ⊥ ∧ (x i : EReal) ≠ ⊤) (fw : ∀ i, (rw i : EReal) ≠ ⊥ ∧ (rw i : EReal) ≠ ⊤)
    (r col : Fin 1024) (g : Fin 32) (hg : (ix (ix2 r 0) : BitVec 32).toNat = g.val) :
    (outF I (ix2 r col) : EReal) = answer x rw W sw g r col := by
  obtain ⟨c, hc⟩ := outF_at I r col
  rw [hc]
  have hs : shared I c r col = ∑ d : Fin 512, (x (ix2 r d) : EReal) * sw (ix2 d col) := by
    unfold shared
    rw [hx, hsw]
  have hp : ∀ c, part I c r col
      = ∑ j : Fin 4, ∑ d : Fin 512, (x (ix2 r d) : EReal) * (if g = num c j then prob x rw r g else 0) * (W (ix3 (num c j) d col) : EReal) :=
    fun c => Finset.sum_congr rfl fun j _ => Finset.sum_congr rfl fun d _ => by
      rw [coefs_at I c r j g (by rw [hix]; exact hg), hx, hrw, hew]
  obtain ⟨p0, p1⟩ := prob_real x rw fx fw r g
  rw [hs, Finset.sum_congr rfl fun c _ => hp c,
    sum_one g (fun e => ∑ d : Fin 512, (x (ix2 r d) : EReal) * (if g = e then prob x rw r g else 0) * (W (ix3 e d col) : EReal))
      (fun e he => Finset.sum_eq_zero fun d _ => by rw [if_neg he, mul_zero, zero_mul])]
  simp only [if_true]
  rw [scale_mid _ p0 p1, add_comm]
  rfl

end match_reference

end Cert.Moe

end
-- ==== Proof.Claims.lean ====
/-
# 01_k: the claim about the values

Under the precondition, every device's result is the reference's.
-/
module

public import proofs.«01_k».proof.Proof.Frames
public import proofs.«01_k».proof.Proof.Match

@[expose] public section

noncomputable section

namespace Cert.Moe

open Cert.KernelIdeal Cert.KernelIdeal.Gen
open Idealize.ShloMosaic
open Idealize.ShloMosaic.TcCoe
open Idealize.SL.Sem

/-! ## What the precondition says -/

/-- A magnitude below infinity is a number's. -/
theorem number_of {a : EReal} (h : Ideal.cmp .olt (max a (-a)) (Ideal.ofBits .bf16 0x7F80#16) = 1#1) : a ≠ ⊥ ∧ a ≠ ⊤ := by
  have hinf : Ideal.ofBits .bf16 0x7F80#16 = (⊤ : EReal) := by simp [Ideal.ofBits, Ideal.ieee]
  rw [hinf] at h
  constructor
  · rintro rfl
    simp [Ideal.cmp] at h
  · rintro rfl
    simp [Ideal.cmp] at h

theorem routed_says [Cert.Pre_routed_KernelIdeal.Facts] {x : FVec Ideal S1024x512 .bf16} {rw : FVec Ideal S512x32 .bf16} {ix : IVec S1024x1 32}
    {ew : FVec Ideal S4x512x1024 .bf16} {sw : FVec Ideal S512x1024 .bf16}
    (h : Cert.Pre_routed_KernelIdeal.fn (F := Ideal) x rw ix ew sw = fun _ => 1#1) :
    (∀ i, (x i : EReal) ≠ ⊥ ∧ (x i : EReal) ≠ ⊤) ∧ (∀ i, (rw i : EReal) ≠ ⊥ ∧ (rw i : EReal) ≠ ⊤)
      ∧ ∀ r : Fin 1024, (ix (ix2 r 0) : BitVec 32).toNat < 32 := by
  have at_row := fun r : Fin 1024 => congrFun h (ix2 r 0)
  unfold Cert.Pre_routed_KernelIdeal.fn at at_row
  have parts := fun r : Fin 1024 => IntOp.andi_eq_one.mp (at_row r)
  have left := fun r : Fin 1024 => IntOp.andi_eq_one.mp (parts r).1
  have fin := IntOp.andi_eq_one.mp (left 0).1
  haveI : Subsingleton Cert.Pre_routed_KernelIdeal.S_.Idx := ⟨fun a b => funext fun i => i.elim0⟩
  refine ⟨fun i => number_of ?_, fun i => number_of ?_, fun r => ?_⟩
  · exact Host.reduce_andi_all _ _ _ _ _ fin.1 i
  · exact Host.reduce_andi_all _ _ _ _ _ fin.2 i
  · have h0 : (0 : ℤ) ≤ (ix (ix2 r 0) : BitVec 32).toInt := IntOp.cmpi_sge.mp (left r).2
    have h1 : (ix (ix2 r 0) : BitVec 32).toInt < 32 := IntOp.cmpi_slt.mp (parts r).2
    rw [BitVec.toInt_eq_toNat_cond] at h0 h1
    have := (ix (ix2 r 0) : BitVec 32).isLt
    split at h0 <;> omega

/-- A device's four experts among all. -/
theorem block_at (W : FVec Ideal Cert.ReferenceIdeal.S32x512x1024 .bf16) (c : Dev nD) (j : Fin 4) (d : Fin 512) (col : Fin 1024) :
    Layout.block ⟨3, ![4, 512, 1024]⟩ ⟨3, ![32, 512, 1024]⟩ 0 8 c W (by decide) (ix3 j d col) = W (ix3 (num c j) d col) := by
  rw [Layout.block_apply]
  refine congrArg W ?_
  funext b
  refine Fin.ext ?_
  rw [Layout.Tiles.idx_val]
  match b with
  | ⟨0, _⟩ => show c.val * 4 + j.val = 4 * c.val + j.val; omega
  | ⟨1, _⟩ => rfl
  | ⟨2, _⟩ => rfl

theorem algebraic : Cert.algebraic_KernelIdeal_ReferenceIdeal_pre_routed_KernelIdeal := by
  intro m ρ m' ρ' pre same
  obtain ⟨fx, fw, fi⟩ := routed_says (pre 0)
  have value : outF (ins m) = Cert.ReferenceIdeal.Value.res_out0 (F := Ideal) m' 0 := by
    funext i
    obtain ⟨r, col, rfl⟩ : ∃ (r col : Fin 1024), i = ix2 r col := ⟨i 0, i 1, eq_ix2 i⟩
    have hi := fi r
    rw [(same 0).1] at fx
    rw [(same 0).2.1] at fw
    rw [(same 0).2.2.1] at hi
    rw [Cert.Moe.reference_apply m' r col ⟨_, hi⟩ rfl]
    refine outF_answer (ins m) _ _ _ _ _ (fun c => (read0 m c).trans (same c).1) (fun c => (read1 m c).trans (same c).2.1)
      (fun c => (read2 m c).trans (same c).2.2.1) (fun c j d col => ?_) (fun c => (read4 m c).trans (same c).2.2.2.2) fx fw r col ⟨_, hi⟩ rfl
    exact (congrFun ((read3 m c).trans (same c).2.2.2.1) (ix3 j d col)).trans (block_at _ c j d col)
  refine ⟨Cert.ReferenceIdeal.Value.res_out0 (F := Ideal) m' 0, ?_, ?_⟩
  · refine (θ_run defs _ _).mono (fun _ h c => ⟨((h.1 c 5).trans (final5 m c)).trans value, (h.1 c 0).trans (final0 m c),
      (h.1 c 1).trans (final1 m c), (h.1 c 2).trans (final2 m c), (h.1 c 3).trans (final3 m c), (h.1 c 4).trans (final4 m c)⟩) (run_main m ρ)
  · exact (θ_run Cert.ReferenceIdeal.defs _ _).mono (fun _ h => h 0) (Cert.ReferenceIdeal.Value.run (F := Ideal) m' ρ')

end Cert.Moe

end
-- ==== Proof.lean ====
/-
# 01_k: the claim

The five claims of the statement, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, Cert.Moe.frame_kernel, Cert.Moe.frame_ideal,
    fun m ρ _ => Cert.Moe.frame_ideal m ρ trivial, Cert.Moe.frame_reference, fun m ρ _ => Cert.Moe.frame_reference m ρ trivial, trivial,
    Cert.Moe.algebraic⟩

end Cert.Proof

end
